-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S8x256x1024 : Shape := ⟨3, ![8, 256, 1024]⟩
abbrev S3x1x1024 : Shape := ⟨3, ![3, 1, 1024]⟩
abbrev S8 : Shape := ⟨1, ![8]⟩
abbrev S3 : Shape := ⟨1, ![3]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S1024 : Shape := ⟨1, ![1024]⟩
abbrev S1x1x1024 : Shape := ⟨3, ![1, 1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S1x1024, .f32⟩
  | .local _ .vmem, ⟨1, _⟩ => ⟨S8x256x1024, .f32⟩
  | .local _ .vmem, ⟨2, _⟩ => ⟨S1x1024, .f32⟩
  | .local _ .vmem, ⟨3, _⟩ => ⟨S3x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_167 : BitVec 32 := 1#32
  let v193 : BitVec 32 := Scalar.addi v2 c1_i32_167
  let c4_i32_168 : BitVec 32 := 4#32
  let c0_i32_169 : BitVec 32 := 0#32
  let v194 : BitVec 1 := Scalar.cmpi .eq c4_i32_168 c0_i32_169
  let c1_i32_170 : BitVec 32 := 1#32
  let v195 : BitVec 32 := Scalar.select v194 c1_i32_170 c4_i32_168
  let v196 : BitVec 32 := Scalar.remsi v193 v195
  let c0_i32_172 : BitVec 32 := 0#32
  let v198 : BitVec 1 := Scalar.cmpi .slt v196 c0_i32_172
  let c0_i32_173 : BitVec 32 := 0#32
  let v199 : BitVec 1 := Scalar.cmpi .slt v195 c0_i32_173
  let v200 : BitVec 1 := Scalar.xori v198 v199
  let c0_i32_171 : BitVec 32 := 0#32
  let v197 : BitVec 1 := Scalar.cmpi .ne v196 c0_i32_171
  let v201 : BitVec 1 := Scalar.andi v200 v197
  let v202 : BitVec 32 := Scalar.addi v196 v195
  let v203 : BitVec 32 := Scalar.select v201 v202 v196
  let c1_i32_177 : BitVec 32 := 1#32
  let v204 : BitVec 32 := Scalar.muli v203 c1_i32_177
  let v205 : BitVec 32 := Scalar.addi c0_i32_178 v204
  v205.toNat
def k0_dev5 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_181 : BitVec 32 := 2#32
  let v212 : BitVec 32 := Scalar.addi v2 c2_i32_181
  let c4_i32_182 : BitVec 32 := 4#32
  let c0_i32_183 : BitVec 32 := 0#32
  let v213 : BitVec 1 := Scalar.cmpi .eq c4_i32_182 c0_i32_183
  let c1_i32_184 : BitVec 32 := 1#32
  let v214 : BitVec 32 := Scalar.select v213 c1_i32_184 c4_i32_182
  let v215 : BitVec 32 := Scalar.remsi v212 v214
  let c0_i32_186 : BitVec 32 := 0#32
  let v217 : BitVec 1 := Scalar.cmpi .slt v215 c0_i32_186
  let c0_i32_187 : BitVec 32 := 0#32
  let v218 : BitVec 1 := Scalar.cmpi .slt v214 c0_i32_187
  let v219 : BitVec 1 := Scalar.xori v217 v218
  let c0_i32_185 : BitVec 32 := 0#32
  let v216 : BitVec 1 := Scalar.cmpi .ne v215 c0_i32_185
  let v220 : BitVec 1 := Scalar.andi v219 v216
  let v221 : BitVec 32 := Scalar.addi v215 v214
  let v222 : BitVec 32 := Scalar.select v220 v221 v215
  let c1_i32_191 : BitVec 32 := 1#32
  let v223 : BitVec 32 := Scalar.muli v222 c1_i32_191
  let v224 : BitVec 32 := Scalar.addi c0_i32_192 v223
  v224.toNat
def k0_dev6 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_195 : BitVec 32 := 3#32
  let v231 : BitVec 32 := Scalar.addi v2 c3_i32_195
  let c4_i32_196 : BitVec 32 := 4#32
  let c0_i32_197 : BitVec 32 := 0#32
  let v232 : BitVec 1 := Scalar.cmpi .eq c4_i32_196 c0_i32_197
  let c1_i32_198 : BitVec 32 := 1#32
  let v233 : BitVec 32 := Scalar.select v232 c1_i32_198 c4_i32_196
  let v234 : BitVec 32 := Scalar.remsi v231 v233
  let c0_i32_200 : BitVec 32 := 0#32
  let v236 : BitVec 1 := Scalar.cmpi .slt v234 c0_i32_200
  let c0_i32_201 : BitVec 32 := 0#32
  let v237 : BitVec 1 := Scalar.cmpi .slt v233 c0_i32_201
  let v238 : BitVec 1 := Scalar.xori v236 v237
  let c0_i32_199 : BitVec 32 := 0#32
  let v235 : BitVec 1 := Scalar.cmpi .ne v234 c0_i32_199
  let v239 : BitVec 1 := Scalar.andi v238 v235
  let v240 : BitVec 32 := Scalar.addi v234 v233
  let v241 : BitVec 32 := Scalar.select v239 v240 v234
  let c1_i32_205 : BitVec 32 := 1#32
  let v242 : BitVec 32 := Scalar.muli v241 c1_i32_205
  let v243 : BitVec 32 := Scalar.addi c0_i32_206 v242
  v243.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Contents.lean ====
/-
# What the buffers hold

The kernel's memory, by name, and the contents a device's buffers take while it runs: the eight blocks of 256
rows the argument is fetched in, the accumulator of column sums, the three slots the other devices' sums land
in, and the result. Everything here is about arrays alone; no step of the program is taken.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.ValueLayout
public import Idealize.ShloMosaic.Lib.Tactic

@[expose] public section

noncomputable section

namespace Cert.MeanProof

open Cert.KernelIdeal Cert.KernelIdeal.Gen
open Idealize.ShloMosaic
open Idealize.ShloMosaic.ValueIdx (ix2 ix3 eq_ix2 eq_ix3)

variable {F : FTy → Type} [FloatOps F]

/-! ## The memory, by name -/

/-- The argument on a device: 2048 rows of 1024 columns. -/
abbrev xW : Memref sig .tc .hbm S2048x1024 .f32 := Memref.whole main_arg0
/-- The result's staging buffer. -/
abbrev oW : Memref sig .tc .vmem S1x1024 .f32 := Memref.whole cc0_stg0_0
/-- The eight fetched blocks. -/
abbrev bW : Memref sig .tc .vmem S8x256x1024 .f32 := Memref.whole cc0_scratch0
/-- The accumulator. -/
abbrev aW : Memref sig .tc .vmem S1x1024 .f32 := Memref.whole cc0_scratch1
/-- The three slots the other devices write. -/
abbrev sW : Memref sig .tc .vmem S3x1x1024 .f32 := Memref.whole cc0_scratch2

theorem row_inb (k : Fin 8) : ∀ a, (![256 * k.val, 0] : Fin 2 → ℕ) a + S256x1024.size a ≤ S2048x1024.size a := by
  revert k; decide

theorem blk_inb (k : Fin 8) : ∀ a, (![k.val, 0, 0] : Fin 3 → ℕ) a + S1x256x1024.size a ≤ S8x256x1024.size a := by
  revert k; decide

theorem slot_inb (t : Fin 3) : ∀ a, (![t.val, 0, 0] : Fin 3 → ℕ) a + S1x1x1024.size a ≤ S3x1x1024.size a := by
  revert t; decide

/-- Rows `256 k … 256 k + 255` of the argument. -/
abbrev rowR (k : Fin 8) : Rect S2048x1024 := Rect.unit (s := S2048x1024) ![256 * k.val, 0] S256x1024.size (row_inb k)
/-- Block `k` of the fetched ones. -/
abbrev blkR (k : Fin 8) : Rect S8x256x1024 := Rect.unit (s := S8x256x1024) ![k.val, 0, 0] S1x256x1024.size (blk_inb k)
/-- Slot `t`. -/
abbrev slotR (t : Fin 3) : Rect S3x1x1024 := Rect.unit (s := S3x1x1024) ![t.val, 0, 0] S1x1x1024.size (slot_inb t)

/-- The source of fetch `k`. -/
abbrev rowM (k : Fin 8) : Memref sig .tc .hbm S256x1024 .f32 := xW.slice (rowR k) (fun _ => rfl)
/-- The destination of fetch `k`. -/
abbrev blkM (k : Fin 8) : Memref sig .tc .vmem S256x1024 .f32 :=
  (bW.slice (blkR k) (fun _ => rfl)).squeeze S256x1024 squeezes_S1x256x1024_S256x1024
/-- Slot `t` as a row of 1024 columns. -/
abbrev slotM (t : Fin 3) : Memref sig .tc .vmem S1x1024 .f32 :=
  (sW.slice (slotR t) (fun _ => rfl)).squeeze S1x1024 squeezes_S1x1x1024_S1x1024

/-! ## The contents -/

/-- Row `256 k + r` of the argument. -/
abbrev rowOf (k : Fin 8) (r : Fin 256) : Fin 2048 := ⟨256 * k.val + r.val, by omega⟩

/-- All eight blocks of `X`, where the fetches put them. -/
def fetched (X : Vec F S2048x1024 .f32) : Vec F S8x256x1024 .f32 := fun i => X (ix2 (rowOf (i 0) (i 1)) (i 2))

/-- Block `k` of `X`, as the kernel loads it. -/
def blk (X : Vec F S2048x1024 .f32) (k : Fin 8) : Vec F S1x256x1024 .f32 := fun i => X (ix2 (rowOf k (i 1)) (i 2))

/-- The three slots once slot `t` has received the row `a t`. -/
def landed (a : Fin 3 → Vec F S1x1024 .f32) : Vec F S3x1x1024 .f32 := fun i => a (i 0) (ix2 0 (i 2))

/-- Slot `t`'s row, as the kernel loads it. -/
def slotRow (v : Vec F S1x1024 .f32) : Vec F S1x1x1024 .f32 := fun i => v (ix2 0 (i 2))

/-- The accumulator after blocks `0 … k`. -/
def accUpTo (X : Vec F S2048x1024 .f32) : ℕ → Vec F S1x1024 .f32
  | 0 => k0_pay2 (blk X 0)
  | k + 1 => k0_pay3 (blk X (Fin.ofNat 8 (k + 1))) (accUpTo X k)

/-- The accumulator after all eight blocks: the column sums of the device's 2048 rows. -/
def accOf (X : Vec F S2048x1024 .f32) : Vec F S1x1024 .f32 := accUpTo X 7

/-- The result: the device's own row of sums and the three received ones, added and scaled. -/
def outOf (own : Vec F S1x1024 .f32) (a : Fin 3 → Vec F S1x1024 .f32) : Vec F S1x1024 .f32 :=
  k0_pay1 (k0_pay10 own (slotRow (a 0))) (slotRow (a 1)) (slotRow (a 2))

/-! ## The sets the blocks and slots occupy -/

theorem rowM_set (k : Fin 8) : (rowM k).view.set = (rowR k).set := View.set_slice_whole _ _

theorem blkM_set (k : Fin 8) : (blkM k).view.set = (blkR k).set := by
  show (((View.whole cc0_scratch0).slice (blkR k)).reshape _ _).set = _
  rw [View.set_reshape]; exact View.set_slice_whole _ _

theorem slotM_set (t : Fin 3) : (slotM t).view.set = (slotR t).set := by
  show (((View.whole cc0_scratch2).slice (slotR t)).reshape _ _).set = _
  rw [View.set_reshape]; exact View.set_slice_whole _ _

/-- An index of the argument lies among the rows of block `k` iff its row is. -/
theorem mem_rowR (k : Fin 8) (i : S2048x1024.Idx) : i ∈ (rowR k).set ↔ (i 0).val / 256 = k.val := by
  rw [Rect.mem_set_unit, Fin.forall_fin_two]
  have h1 : (i 1).val < 1024 := (i 1).isLt
  show (256 * k.val ≤ (i 0).val ∧ (i 0).val < 256 * k.val + 256) ∧ (0 ≤ (i 1).val ∧ (i 1).val < 0 + 1024) ↔ _
  omega

/-- An index of the fetched blocks lies in block `k` iff its first coordinate is `k`. -/
theorem mem_blkR (k : Fin 8) (i : S8x256x1024.Idx) : i ∈ (blkR k).set ↔ (i 0).val = k.val := by
  rw [Rect.mem_set_unit, Fin.forall_fin_succ, Fin.forall_fin_two]
  have h1 : (i 1).val < 256 := (i 1).isLt
  have h2 : (i 2).val < 1024 := (i 2).isLt
  show (k.val ≤ (i 0).val ∧ (i 0).val < k.val + 1) ∧ (0 ≤ (i 1).val ∧ (i 1).val < 0 + 256)
    ∧ (0 ≤ (i 2).val ∧ (i 2).val < 0 + 1024) ↔ _
  omega

/-- An index of the slots lies in slot `t` iff its first coordinate is `t`. -/
theorem mem_slotR (t : Fin 3) (i : S3x1x1024.Idx) : i ∈ (slotR t).set ↔ (i 0).val = t.val := by
  rw [Rect.mem_set_unit, Fin.forall_fin_succ, Fin.forall_fin_two]
  have h1 : (i 1).val < 1 := (i 1).isLt
  have h2 : (i 2).val < 1024 := (i 2).isLt
  show (t.val ≤ (i 0).val ∧ (i 0).val < t.val + 1) ∧ (0 ≤ (i 1).val ∧ (i 1).val < 0 + 1)
    ∧ (0 ≤ (i 2).val ∧ (i 2).val < 0 + 1024) ↔ _
  omega

/-- Different blocks of rows share no element of the argument. -/
theorem rowM_disjoint (k k' : Fin 8) (h : k ≠ k') : Disjoint (rowM k).view.set (rowM k').view.set := by
  rw [rowM_set, rowM_set, Finset.disjoint_left]
  intro i hi hi'
  exact h (Fin.ext (((mem_rowR k i).1 hi).symm.trans ((mem_rowR k' i).1 hi')))

/-- The eight blocks of rows are the whole argument. -/
theorem rowM_cover : (Finset.univ : Finset (Fin 8)).biUnion (β := S2048x1024.Idx) (fun k => (rowM k).view.set)
    = Finset.univ := by
  refine Finset.eq_univ_of_forall fun i => ?_
  rw [Finset.mem_biUnion]
  have h0 : (i 0).val < 2048 := (i 0).isLt
  exact ⟨⟨(i 0).val / 256, by omega⟩, Finset.mem_univ _, by rw [rowM_set]; exact (mem_rowR _ i).2 rfl⟩

/-- Different fetched blocks share no element. -/
theorem blkM_disjoint (k k' : Fin 8) (h : k ≠ k') : Disjoint (blkM k).view.set (blkM k').view.set := by
  rw [blkM_set, blkM_set, Finset.disjoint_left]
  intro i hi hi'
  exact h (Fin.ext (((mem_blkR k i).1 hi).symm.trans ((mem_blkR k' i).1 hi')))

/-- The eight fetched blocks are their whole buffer. -/
theorem blkM_cover : (Finset.univ : Finset (Fin 8)).biUnion (β := S8x256x1024.Idx) (fun k => (blkM k).view.set)
    = Finset.univ := by
  refine Finset.eq_univ_of_forall fun i => ?_
  rw [Finset.mem_biUnion]
  exact ⟨(⟨(i 0).val, (i 0).isLt⟩ : Fin 8), Finset.mem_univ _, by rw [blkM_set]; exact (mem_blkR _ i).2 rfl⟩

/-- Different slots share no element. -/
theorem slotM_disjoint (t t' : Fin 3) (h : t ≠ t') : Disjoint (slotM t).view.set (slotM t').view.set := by
  rw [slotM_set, slotM_set, Finset.disjoint_left]
  intro i hi hi'
  exact h (Fin.ext (((mem_slotR t i).1 hi).symm.trans ((mem_slotR t' i).1 hi')))

/-- The three slots are their whole buffer. -/
theorem slotM_cover : (Finset.univ : Finset (Fin 3)).biUnion (β := S3x1x1024.Idx) (fun t => (slotM t).view.set)
    = Finset.univ := by
  refine Finset.eq_univ_of_forall fun i => ?_
  rw [Finset.mem_biUnion]
  exact ⟨(⟨(i 0).val, (i 0).isLt⟩ : Fin 3), Finset.mem_univ _, by rw [slotM_set]; exact (mem_slotR _ i).2 rfl⟩

/-! ## What a transfer leaves, what a load reads -/

theorem rowM_emb (k : Fin 8) (r : Fin 256) (l : Fin 1024) : (rowM k).view.emb (ix2 r l) = ix2 (rowOf k r) l := by
  show (rowR k).emb (ix2 r l) = _
  funext a
  refine Fin.ext ?_
  rw [ValueKit.rect_emb_unit_val]
  match a with
  | ⟨0, _⟩ => rfl
  | ⟨1, _⟩ => exact Nat.zero_add _

theorem blkR_emb (k : Fin 8) (z : Fin 1) (r : Fin 256) (l : Fin 1024) : (blkR k).emb (ix3 z r l) = ix3 k r l := by
  funext a
  refine Fin.ext ?_
  rw [ValueKit.rect_emb_unit_val]
  match a with
  | ⟨0, _⟩ => show k.val + z.val = k.val; omega
  | ⟨1, _⟩ => exact Nat.zero_add _
  | ⟨2, _⟩ => exact Nat.zero_add _

theorem slotR_emb (t : Fin 3) (z z' : Fin 1) (l : Fin 1024) : (slotR t).emb (ix3 z z' l) = ix3 t z' l := by
  funext a
  refine Fin.ext ?_
  rw [ValueKit.rect_emb_unit_val]
  match a with
  | ⟨0, _⟩ => show t.val + z.val = t.val; omega
  | ⟨1, _⟩ => exact Nat.zero_add _
  | ⟨2, _⟩ => exact Nat.zero_add _

theorem blkM_emb (k : Fin 8) (r : Fin 256) (l : Fin 1024) : (blkM k).view.emb (ix2 r l) = ix3 k r l := by
  show (blkR k).emb (Shape.reshapeEquiv _ (ix2 r l)) = _
  rw [ValueIdx.reshapeEquiv_ix2_1ab]; exact blkR_emb k _ r l

theorem slotM_emb (t : Fin 3) (z : Fin 1) (l : Fin 1024) : (slotM t).view.emb (ix2 z l) = ix3 t z l := by
  show (slotR t).emb (Shape.reshapeEquiv _ (ix2 z l)) = _
  rw [ValueIdx.reshapeEquiv_ix2_1ab]; exact slotR_emb t _ z l

/-- Fetch `k` leaves block `k` holding its rows of the argument, whatever was there before. -/
theorem fetch_leaves (X : Vec F S2048x1024 .f32) (k : Fin 8) (f : Vec F S8x256x1024 .f32) :
    ∀ i ∈ (blkM k).view.set,
      (blkM k).view.write (Elt F) f ((rowM k).view.read (Elt F) X) Finset.univ i = fetched X i := by
  intro i hi
  obtain ⟨y, -, rfl⟩ := Finset.mem_map.1 hi
  rw [View.write_emb_of_mem _ _ (Finset.mem_univ y)]
  obtain ⟨r, l, rfl⟩ : ∃ r l, y = ix2 r l := ⟨y 0, y 1, eq_ix2 y⟩
  rw [View.read_apply, rowM_emb]
  show X _ = fetched X ((blkM k).view.emb (ix2 r l))
  rw [blkM_emb]
  rfl

/-- A transfer of the row `v` into slot `t` leaves the slot holding `v`, whatever was there before. -/
theorem send_leaves (a : Fin 3 → Vec F S1x1024 .f32) (t : Fin 3) (f : Vec F S3x1x1024 .f32) :
    ∀ i ∈ (slotM t).view.set,
      (slotM t).view.write (Elt F) f (aW.view.read (Elt F) (a t)) Finset.univ i = landed a i := by
  intro i hi
  obtain ⟨y, -, rfl⟩ := Finset.mem_map.1 hi
  rw [View.write_emb_of_mem _ _ (Finset.mem_univ y)]
  obtain ⟨z, l, rfl⟩ : ∃ z l, y = ix2 z l := ⟨y 0, y 1, eq_ix2 y⟩
  obtain rfl : z = 0 := Subsingleton.elim _ _
  show a t (ix2 0 l) = landed a ((slotM t).view.emb (ix2 0 l))
  rw [slotM_emb]
  rfl

/-- A load of block `k` reads the argument's rows of it. -/
theorem load_blk (X : Vec F S2048x1024 .f32) (k : Fin 8) :
    bW.view.readAt (Elt F) (blkR k).toLoadRect (fetched X) = blk X k := by
  funext y
  obtain ⟨z, r, l, rfl⟩ : ∃ z r l, y = ix3 z r l := ⟨y 0, y 1, y 2, eq_ix3 y⟩
  show fetched X ((blkR k).emb (ix3 z r l)) = _
  rw [blkR_emb]; rfl

/-- A load of slot `t` reads the row it received. -/
theorem load_slot (a : Fin 3 → Vec F S1x1024 .f32) (t : Fin 3) :
    sW.view.readAt (Elt F) (slotR t).toLoadRect (landed a) = slotRow (a t) := by
  funext y
  obtain ⟨z, z', l, rfl⟩ : ∃ z z' l, y = ix3 z z' l := ⟨y 0, y 1, y 2, eq_ix3 y⟩
  show landed a ((slotR t).emb (ix3 z z' l)) = _
  rw [slotR_emb]; rfl

theorem zero_off : (![0, 0] : Fin 2 → ℕ) = fun _ => 0 := by decide

/-- The rectangle of a whole row of 1024 columns. -/
abbrev lineR : Rect S1x1024 := Rect.unit (s := S1x1024) ![0, 0] S1x1024.size inb_S1x1024_S1x1024_0_0

/-- A load of the accumulator reads all of it. -/
theorem load_acc (v : Vec F S1x1024 .f32) : aW.view.readAt (Elt F) lineR.toLoadRect v = v :=
  Memref.readAt_unit_zero (Elt F) cc0_scratch1 zero_off _ v

/-- A store to the accumulator replaces all of it. -/
theorem store_acc (f v : Vec F S1x1024 .f32) :
    (aW.view.slice lineR).write (Elt F) f v Finset.univ = v :=
  Memref.write_access_unit_zero_univ (Elt F) cc0_scratch1 zero_off _ f v

/-- A store to the result's buffer replaces all of it. -/
theorem store_out (f v : Vec F S1x1024 .f32) :
    (oW.view.slice lineR).write (Elt F) f v Finset.univ = v :=
  Memref.write_access_unit_zero_univ (Elt F) cc0_stg0_0 zero_off _ f v

end Cert.MeanProof
-- ==== Proof.Protocol.lean ====
/-
# How the devices meet

The names of the other devices as one sees them, the semaphores, who signals whom and what each signal hands
over, what a device owes when it starts, and what its one grid point begins and ends with.

Each device adds up its own rows while the others do the same. It tells the three others that its slots may be
written, waits until they have said so too, sends its row of sums to each of them, and waits for its three
transfers to leave and the three of the others to arrive.

Device `c` counts the others `0, 1, 2` as `c + 1`, `c + 2`, `c + 3`; the device it counts `s` counts it back as
`rev s`. Slot `t` of a device is the one its `t`-th other writes.
-/
module

public import proofs.«01_k».proof.Proof.Contents
public import Idealize.ShloMosaic.Lib.Transfers
public import Idealize.ShloMosaic.Lib.Ring
public import Idealize.ShloMosaic.Lib.Ring.Trips

@[expose] public section

noncomputable section

namespace Cert.MeanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds, the devices' rounds, and counters for the local fetches -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

omit [FloatOps F] in
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The other devices -/

set_option backward.proofsInPublic true in
/-- The `s`-th other device, as `c` counts them. -/
def peer (c : Dev nD) (s : Fin 3) : Dev nD := ⟨(c.val + 1 + s.val) % 4, Nat.mod_lt _ (by decide)⟩

set_option backward.proofsInPublic true in
/-- How the `s`-th other device counts one back. -/
def rev (s : Fin 3) : Fin 3 := ⟨2 - s.val, by omega⟩

theorem rev_rev (s : Fin 3) : rev (rev s) = s := by revert s; decide
theorem peer_peer (c : Dev nD) (s : Fin 3) : peer (peer c s) (rev s) = c := by revert c s; decide

/-- A device and one of the others: the pair seen from the other side. -/
def swap : (Dev nD × Fin 3) ≃ (Dev nD × Fin 3) where
  toFun p := (peer p.1 p.2, rev p.2)
  invFun p := (peer p.1 p.2, rev p.2)
  left_inv p := Prod.ext (peer_peer p.1 p.2) (rev_rev p.2)
  right_inv p := Prod.ext (peer_peer p.1 p.2) (rev_rev p.2)

/-- The devices the kernel computes: its signals and its transfers go to the others in turn. -/
theorem dev1_eq (c : Dev nD) : (⟨k0_dev1 c, k0_dev1_lt c⟩ : Dev nD) = peer c 0 := by revert c; decide
theorem dev2_eq (c : Dev nD) : (⟨k0_dev2 c, k0_dev2_lt c⟩ : Dev nD) = peer c 1 := by revert c; decide
theorem dev3_eq (c : Dev nD) : (⟨k0_dev3 c, k0_dev3_lt c⟩ : Dev nD) = peer c 2 := by revert c; decide
theorem dev4_eq (c : Dev nD) : (⟨k0_dev4 c, k0_dev4_lt c⟩ : Dev nD) = peer c 0 := by revert c; decide
theorem dev5_eq (c : Dev nD) : (⟨k0_dev5 c, k0_dev5_lt c⟩ : Dev nD) = peer c 1 := by revert c; decide
theorem dev6_eq (c : Dev nD) : (⟨k0_dev6 c, k0_dev6_lt c⟩ : Dev nD) = peer c 2 := by revert c; decide

/-! ## The semaphores -/

/-- The barrier semaphore the devices share an identity of. -/
abbrev barS : Sem sig := (SemArray.scalar (sig.barrier 0 rfl) : Sems sig S_).sem
set_option backward.proofsInPublic true in
/-- The semaphore of fetch `k`. -/
abbrev copyS (k : Fin 8) : DmaSem sig := ⟨1 + k.val, by have := k.isLt; show 1 + k.val < 15; omega⟩
set_option backward.proofsInPublic true in
/-- The semaphore transfer `s` counts its leaving on. -/
abbrev sendS (s : Fin 3) : DmaSem sig := ⟨9 + s.val, by have := s.isLt; show 9 + s.val < 15; omega⟩
set_option backward.proofsInPublic true in
/-- The semaphore the arrival in slot `t` is counted on. -/
abbrev recvS (t : Fin 3) : DmaSem sig := ⟨12 + t.val, by have := t.isLt; show 12 + t.val < 15; omega⟩

/-- The semaphores the devices meet on: the barrier, or the leaving (`false`) or arrival (`true`) of one transfer. -/
abbrev Cls : Type := Option (Bool × Fin 3)

abbrev csem : Cls → SemLoc sig
  | none => .reg barS
  | some (false, s) => .dma (sendS s)
  | some (true, t) => .dma (recvS t)

set_option backward.proofsInPublic true in
/-- Which of them a semaphore is, if any. -/
def classOf : SemLoc sig → Option Cls
  | .reg _ => some none
  | .dma q => if h : q.val < 9 then none else if h : q.val < 12 then some (some (false, ⟨q.val - 9, by omega⟩))
      else if h : q.val < 15 then some (some (true, ⟨q.val - 12, by omega⟩)) else none

theorem classOf_csem (j : Cls) : classOf (csem j) = some j := by revert j; decide

theorem csem_injective : Function.Injective csem := fun j j' h =>
  Option.some.inj ((classOf_csem j).symm.trans ((congrArg classOf h).trans (classOf_csem j')))

abbrev kcell (p : Dev nD × Cls) : GSem nD τ sig := ((p.1 : Thread nD τ), csem p.2)
abbrev barCell (c : Dev nD) : GSem nD τ sig := kcell (c, none)
abbrev sendCell (c : Dev nD) (s : Fin 3) : GSem nD τ sig := kcell (c, some (false, s))
abbrev recvCell (c : Dev nD) (t : Fin 3) : GSem nD τ sig := kcell (c, some (true, t))
abbrev copyCell (c : Dev nD) (k : Fin 8) : GSem nD τ sig := ((c : Thread nD τ), .dma (copyS k))

/-- What one transfer of a row counts. -/
abbrev N : ℕ := (slotM 0).view.dmaCredit
theorem N_pos : 0 < N := View.dmaCredit_pos _ (by decide)

/-! ## The contents -/

/-- The argument on device `c`. -/
def xAt (c : Dev nD) : Vec F S2048x1024 .f32 := m ((c : Thread nD τ).loc main_arg0)
/-- The column sums of device `c`'s rows. -/
def accAt (c : Dev nD) : Vec F S1x1024 .f32 := accOf (xAt m c)
/-- The three slots of device `c` when all has arrived: in slot `t` the sums of its `t`-th other. -/
def slotsAt (c : Dev nD) : Vec F S3x1x1024 .f32 := landed fun t => accAt m (peer c t)
/-- The result on device `c`. -/
def outAt (c : Dev nD) : Vec F S1x1024 .f32 := outOf (accAt m c) fun t => accAt m (peer c t)

/-- Slot `t` of device `c`, holding what `f` says. -/
def slotPts (c : Dev nD) (t : Fin 3) (f : Vec F S3x1x1024 .f32) : sProp 𝕄 :=
  (slotM t).view.loc (c : Thread nD τ) ↦[(slotM t).view.set]{fullShare} f
/-- The accumulator of device `c` at a share `q`, holding `v`. -/
def accPts (c : Dev nD) (q : PosShare TreeShare) (v : Vec F S1x1024 .f32) : sProp 𝕄 :=
  aW.view.loc (c : Thread nD τ) ↦[aW.view.set]{q} v

omit [FloatOps F] in
instance slotPts_storable (c : Dev nD) (t : Fin 3) (f) : BI.Storable (upEmb : UEmb _ 𝕄) (slotPts (F := F) c t f) := by
  unfold slotPts; infer_instance
omit [FloatOps F] in
instance accPts_storable (c : Dev nD) (q) (v) : BI.Storable (upEmb : UEmb _ 𝕄) (accPts (F := F) c q v) := by
  unfold accPts; infer_instance

/-! ## The schedule: one round, who pays what into which semaphore -/

/-- What the `t`-th other of `c` hands over with its signal: the slot of its own that `c` is to write. -/
def barPay (c : Dev nD) (t : Fin 3) : sProp 𝕄 := iprop(∃ f, slotPts (peer c t) (rev t) f)
/-- What the leaving of transfer `s` gives back: the share of the accumulator it read. -/
def sendPay (c : Dev nD) (s : Fin 3) : sProp 𝕄 := accPts c (Ring.shares3 fullShare s) (accAt m c)
/-- What the arrival in slot `t` gives: the slot, holding the sums of the `t`-th other. -/
def recvPay (c : Dev nD) (t : Fin 3) : sProp 𝕄 := slotPts c t (slotsAt m c)

def dutiesOf : Option Cls → Finset (Fin 3)
  | none => ∅
  | some none => Finset.univ
  | some (some _) => {0}

def amountOf : Option Cls → ℕ
  | some none => 1
  | _ => N

def payloadOf (c : Dev nD) (d : Fin 3) : Option Cls → sProp 𝕄
  | none => iprop(emp)
  | some none => barPay c d
  | some (some (false, s)) => sendPay m c s
  | some (some (true, t)) => recvPay m c t

/-- One round: the barrier has a duty of one unit for each of the others; the leaving and the arrival of a transfer
    are one duty of its whole count each. -/
def sched : Rounds.Schedule (GSem nD τ sig) (Fin 3) 𝕄 where
  duties g r := if r = 0 ∧ g.1.2 = .tc then dutiesOf (classOf g.2) else ∅
  unitless _ := False
  amount g _ _ := amountOf (classOf g.2)
  payload g _ d := payloadOf m g.1.1 d (classOf g.2)
  amount_pos g _ _ _ := by
    unfold amountOf; split
    · exact Nat.one_pos
    · exact N_pos

instance sched_payload_storable (g : GSem nD τ sig) (r : ℕ) (d : Fin 3) :
    BI.Storable (upEmb : UEmb _ 𝕄) ((sched m).payload g r d) := by
  show BI.Storable upEmb (payloadOf m g.1.1 d (classOf g.2))
  unfold payloadOf barPay sendPay recvPay
  split <;> infer_instance

section Tables
variable (c : Dev nD) (s : Fin 3)

theorem duties_cell (j : Cls) : (sched m).duties (kcell (c, j)) 0 = dutiesOf (some j) := by
  dsimp only [sched]; rw [if_pos ⟨rfl, rfl⟩, classOf_csem]
theorem duties_later (g : GSem nD τ sig) : ∀ r, 1 ≤ r → (sched m).duties g r = ∅ :=
  fun r hr => by dsimp only [sched]; exact if_neg fun h => by omega
theorem amount_cell (j : Cls) (d : Fin 3) : (sched m).amount (kcell (c, j)) 0 d = amountOf (some j) := by
  dsimp only [sched]; rw [classOf_csem]
theorem payload_cell (j : Cls) (d : Fin 3) : (sched m).payload (kcell (c, j)) 0 d = payloadOf m c d (some j) := by
  dsimp only [sched]; rw [classOf_csem]

theorem expect_bar : (sched m).expect (barCell c) 0 = 3 := by
  unfold Schedule.expect Schedule.amountOf
  rw [duties_cell, Finset.sum_congr rfl fun d _ => amount_cell m c none d]
  rfl
theorem expect_xfer (p : Bool × Fin 3) : (sched m).expect (kcell (c, some p)) 0 = N := by
  unfold Schedule.expect Schedule.amountOf
  rw [duties_cell]; show Finset.sum {0} _ = N
  rw [Finset.sum_singleton, amount_cell]; rfl

/-- All a barrier round gives: the three slots of the others. -/
theorem rest_bar : bigSep ((sched m).duties (barCell c) 0 \ ∅) (fun d => (sched m).payload (barCell c) 0 d)
    = bigSep Finset.univ fun t : Fin 3 => barPay (F := F) c t := by
  rw [Finset.sdiff_empty, duties_cell]
  exact bigSep_congr fun d _ => payload_cell m c none d
/-- All a transfer's leaving gives. -/
theorem rest_send : bigSep ((sched m).duties (sendCell c s) 0 \ ∅) (fun d => (sched m).payload (sendCell c s) 0 d)
    = sendPay m c s := by
  rw [Finset.sdiff_empty, duties_cell]; show bigSep {0} _ = _
  rw [bigSep_singleton, payload_cell]; rfl
/-- All an arrival gives. -/
theorem rest_recv : bigSep ((sched m).duties (recvCell c s) 0 \ ∅) (fun d => (sched m).payload (recvCell c s) 0 d)
    = recvPay m c s := by
  rw [Finset.sdiff_empty, duties_cell]; show bigSep {0} _ = _
  rw [bigSep_singleton, payload_cell]; rfl

end Tables

/-! ## What a device owes, and in which order the waits may go -/

/-- The unit a device owes its `s`-th other's barrier. -/
def owedBar (c : Dev nD) (s : Fin 3) : CellTallies nD τ sig Unit := tallyAt (barCell (peer c s)) () 1
/-- The row it owes its `s`-th other's slot. -/
def owedRow (c : Dev nD) (s : Fin 3) : CellTallies nD τ sig Unit := tallyAt (recvCell (peer c s) (rev s)) () N
/-- What it owes once its signals are given: the three rows. -/
def O₁ (c : Dev nD) : CellTallies nD τ sig Unit := 0 + owedRow c 2 + owedRow c 1 + owedRow c 0
/-- What it owes at launch: the three signals and the three rows. -/
def O₀ (c : Dev nD) : CellTallies nD τ sig Unit := O₁ c + owedBar c 2 + owedBar c 1 + owedBar c 0

def levelOf : Option Cls → ℕ
  | some none => 1
  | some (some (true, _)) => 2
  | _ => 0

def L (g : GSem nD τ sig) : Finset Unit := if g.1.2 = .tc then {()} else ∅
/-- Arrivals wait on barriers, barriers on nothing owed. -/
def lv (g : GSem nD τ sig) (_ : Unit) : ℕ := levelOf (classOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (j : Cls) (u : Unit) : lv (kcell (c, j)) u = levelOf (some j) := by
  unfold lv; rw [classOf_csem]

/-- Everything `O` owes is owed to cells of the devices above level `n`. -/
def Above (n : ℕ) (O : CellTallies nD τ sig Unit) : Prop := ∀ g u, 0 < O g u → u ∈ L g ∧ n < lv g u

theorem above_zero (n : ℕ) : Above n 0 := fun g u h => absurd h (Nat.lt_irrefl 0)

theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0

theorem above_tally {n k : ℕ} (c : Dev nD) (j : Cls) (hj : n < levelOf (some j)) : Above n (tallyAt (kcell (c, j)) () k) := by
  intro g u hg
  rw [tallyAt_apply] at hg
  by_cases h : g = kcell (c, j) ∧ u = ()
  · rw [h.1, lv_cell, L_tc]; exact ⟨Finset.mem_singleton_self _, hj⟩
  · rw [if_neg h] at hg; exact absurd hg (Nat.lt_irrefl 0)

theorem above_O₁ (c : Dev nD) : Above 1 (O₁ c) :=
  above_add (above_add (above_add (above_zero _) (above_tally _ _ (by decide))) (above_tally _ _ (by decide))) (above_tally _ _ (by decide))

theorem Above.mono {n n' : ℕ} {O} (h : Above n O) (hn : n' ≤ n) : Above n' O :=
  fun g u hg => ⟨(h g u hg).1, lt_of_le_of_lt hn (h g u hg).2⟩

theorem above_O₀ (c : Dev nD) : Above 0 (O₀ c) :=
  above_add (above_add (above_add ((above_O₁ c).mono (by decide)) (above_tally _ _ (by decide))) (above_tally _ _ (by decide)))
    (above_tally _ _ (by decide))

/-- A device may wait on a semaphore at or below level `n` while all it owes lies above. -/
theorem mayWait (c : Dev nD) (sm : SemLoc sig) (n : ℕ) (hn : levelOf (classOf sm) ≤ n) {O} (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => (hO g u hg).1)
    (fun p hp => by rw [Finset.mem_singleton.mp hp]; exact hn)
    (fun g u hg => (hO g u hg).2)

/-! ## What a device's grid point begins and ends with -/

/-- The invariants of all the devices' cells, under the names the launch gave them, and that each is at its round. -/
def records (K : Dev nD × Cls → ℕ) : sProp 𝕄 :=
  bigSep Finset.univ fun p : Dev nD × Cls => iprop(cellInv ER (sched m) (K p) (kcell p) ∗ reached ER (kcell p) 0)

instance records_persistent (K : Dev nD × Cls → ℕ) : BI.Persistent (records m K) := by unfold records; infer_instance

theorem records_inv (K : Dev nD × Cls → ℕ) (p : Dev nD × Cls) : records m K ⊢ cellInv ER (sched m) (K p) (kcell p) := by
  unfold records
  refine (bigSep_elim (Finset.mem_univ p)).trans ?_
  show iprop(cellInv ER (sched m) (K p) (kcell p) ∗ reached ER (kcell p) 0) ⊢ _
  iintro ⟨H, -⟩; iexact H

theorem records_reached (K : Dev nD × Cls → ℕ) (p : Dev nD × Cls) : records m K ⊢ reached ER (kcell p) 0 := by
  unfold records
  refine (bigSep_elim (Finset.mem_univ p)).trans ?_
  show iprop(cellInv ER (sched m) (K p) (kcell p) ∗ reached ER (kcell p) 0) ⊢ _
  iintro ⟨-, H⟩; iexact H

/-- The tokens device `c` pays with towards its `s`-th other: the unit of that one's barrier, the leaving of its own
    transfer, the arrival at the other. -/
def payToks (c : Dev nD) (s : Fin 3) : sProp 𝕄 :=
  iprop(dutyTok ER (barCell (peer c s)) 0 (rev s) ∗ dutyTok ER (sendCell c s) 0 0 ∗ dutyTok ER (recvCell (peer c s) (rev s)) 0 0)

/-- Device `c`'s place at the beginning of each of its cells, and its tokens. -/
def places (c : Dev nD) : sProp 𝕄 :=
  iprop((bigSep Finset.univ fun j : Cls => atPos ER (kcell (c, j)) 0 ∅ 0) ∗ bigSep Finset.univ fun s : Fin 3 => payToks c s)

/-- What it may collect: three units of its barrier, a row in each slot. -/
def creds (c : Dev nD) : sProp 𝕄 :=
  iprop(cred (tallyAt (barCell c) () 3) ∗ bigSep Finset.univ fun t : Fin 3 => cred (tallyAt (recvCell c t) () N))

/-- The counters of the eight fetches, at zero. -/
def fetchSems (c : Dev nD) : sProp 𝕄 := bigSep Finset.univ fun k : Fin 8 => semVal (copyCell c k) 0

/-- The argument, held whole. -/
def xPts (c : Dev nD) : sProp 𝕄 := (c : Thread nD τ).loc main_arg0 ↦{fullShare} xAt m c

def start (c : Dev nD) : sProp 𝕄 :=
  iprop((∃ K, records m K ∗ places c) ∗ creds c ∗ levAts L lv ∗ fetchSems c ∗ xPts m c)

/-- The three scratch buffers, at whatever they hold. -/
def scratch (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f))

def Φ₀ (c : Dev nD) : sProp 𝕄 := iprop(start m c ∗ scratch c)

/-- After the point: the argument as it was, the scratch buffers, and every counter back at zero. -/
def Φ₁ (c : Dev nD) : sProp 𝕄 :=
  iprop(xPts m c ∗ scratch c ∗ fetchSems c ∗ bigSep Finset.univ fun j : Cls => semVal (kcell (c, j)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.MeanProof
-- ==== Proof.Steps.lean ====
/-
# The steps a device takes

One lemma for each kind of step of the kernel, stated once for every other device `s`, slot `t` or block `k`: a
signal, the wait for the others' signals, a fetch and the wait for it, a transfer, the waits for its leaving and
for an arrival, the end of a cell. Each says: from these resources, the step may be taken, and the rest of the
program goes on from those.
-/
module

public import proofs.«01_k».proof.Proof.Protocol

@[expose] public section

noncomputable section

namespace Cert.MeanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Device `c` may run the program `p` and end with `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited for. -/
def debts (c : Dev nD) (O : CellTallies nD τ sig Unit) : sProp 𝕄 := iprop(∃ W, owes (c : Thread nD τ) O W)

section
variable (K : Dev nD × Cls → ℕ) (c : Dev nD)

/-- A program of a device's TensorCore with a result in `α`. -/
abbrev Code (F : FTy → Type) (α : Type) : Type 1 := Prog (TpuEff nD τ sig (Elt F) Λ₀ .tc) α

/-! ## The barrier -/

/-- The signal to the `s`-th other: the device gives up its slot `s` and owes one unit less. -/
theorem step_signal {α : Type} {Q : α → sProp 𝕄} {k : PUnit → Code F α} (s : Fin 3) (n : Dev nD) (hn : n = peer c s) (O : CellTallies nD τ sig Unit) :
    iprop(records m K ∗ debts c (O + owedBar c s) ∗ dutyTok ER (barCell (peer c s)) 0 (rev s) ∗ (∃ f, slotPts c s f))
      ⊢ iprop((debts c O -∗ run c (k ⟨⟩) Q) -∗ run c (.op (.semSignal (n, .tc) barS (1#32).toInt) k) Q) := by
  subst hn
  have e : (iprop(∃ f, slotPts c s f) : sProp 𝕄) = (sched m).payload (barCell (peer c s)) 0 (rev s) := by
    rw [payload_cell]; show _ = barPay (peer c s) (rev s)
    unfold barPay; rw [peer_peer, rev_rev]
  unfold debts
  iintro ⟨#HR, ⟨%W, HO⟩, Ht, Hs⟩ Hk
  iapply (Rounds.wp_signal 𝒱₀ ER (sched m) (c : Thread nD τ) none (dst := (peer c s : Thread nD τ)) (κ := K (peer c s, none))
      (d := rev s) (by rw [duties_cell m (peer c s) none]; exact Finset.mem_univ _) ((amount_cell m (peer c s) none (rev s)).trans (by decide)) () O rfl)
    $$ [HO Ht Hs]
  · isplitr; · iapply (records_inv m K (peer c s, none)); iexact HR
    isplitl [HO]; · iexact HO
    isplitl [Ht]; · iexact Ht
    isplitl [Hs]; · iapply (Entails.of_eq e); iexact Hs
    · iapply (records_reached m K (peer c s, none)); iexact HR
  iintro HO
  iapply Hk; iexists W; iexact HO

/-- The wait for the three signals: the slots of the others that the device is to write. -/
theorem step_barrier {α : Type} {Q : α → sProp 𝕄} {k : PUnit → Code F α} :
    iprop(records m K ∗ levAts L lv ∗ cred (tallyAt (barCell c) () 3) ∗ debts c (O₁ c) ∗ atPos ER (barCell c) 0 ∅ 0)
      ⊢ iprop((debts c (O₁ c) ∗ atPos ER (barCell c) 1 ∅ 0 ∗ (bigSep Finset.univ fun t : Fin 3 => barPay (F := F) c t) -∗ run c (k ⟨⟩) Q)
          -∗ run c (.op (.semWait barS (3#32).toInt) k) Q) := by
  unfold debts
  iintro ⟨#HR, #Hlev, Hc, ⟨%W, HO⟩, Hat⟩ Hk
  iapply (Rounds.wp_wait_rest_token 𝒱₀ ER (sched m) (c : Thread nD τ) none (κ := K (c, none))
      (wpE_semWait_eq 𝒱₀ (c : Thread nD τ) none Set.univ) (Set.mem_univ _) () (O := O₁ c) (W := W) (R := 0) (m := 0) (T := ∅)
      (by rw [expect_bar]; decide)) $$ [Hc HO Hat]
  · isplitr; · iapply (records_inv m K (c, none)); iexact HR
    isplitl [Hc]; · iexact Hc
    isplitl [HO]; · iexact HO
    isplitr; · iapply (mayWait c (.reg barS) 1 (by decide) (above_O₁ c)); iexact Hlev
    iexact Hat
  iintro ⟨HO, Hat, -, Hpay⟩
  iapply Hk
  isplitl [HO]; · iexists _; iexact HO
  isplitl [Hat]; · iexact Hat
  iapply (Entails.of_eq (rest_bar m c)); iexact Hpay

/-! ## The fetches -/

/-- Rows `256 b …` of the argument, held. -/
def rowPts (b : Fin 8) : sProp 𝕄 := (rowM b).view.loc (c : Thread nD τ) ↦[(rowM b).view.set]{fullShare} xAt m c
/-- Block `b` of the fetched ones, holding what `f` says. -/
def blkPts (b : Fin 8) (f : Vec F S8x256x1024 .f32) : sProp 𝕄 :=
  (blkM b).view.loc (c : Thread nD τ) ↦[(blkM b).view.set]{fullShare} f

theorem level_copy (b : Fin 8) : levelOf (classOf (.dma (copyS b))) ≤ 0 := by revert b; decide

/-- Fetch `b` under way: it will give the block, holding its rows, and the rows themselves. -/
def fetching (b : Fin 8) : sProp 𝕄 :=
  Transfers.Flight EC (c : Thread nD τ) (.dma (copyS b)) () (blkM b).view.dmaCredit
    iprop(blkPts c b (fetched (xAt m c)) ∗ rowPts m c b)

/-- Fetch `b` starts. -/
theorem step_fetch {α : Type} {Q : α → sProp 𝕄} {k : PUnit → Code F α} (b : Fin 8) (f : Vec F S8x256x1024 .f32)
    {hsrc : (rowM b).view.WordExact} {hdst : (blkM b).view.WordExact}
    {hsem : DmaTarget.Typed .hbm (.dma (copyS b)) (.here (blkM b) : DmaTarget nD τ sig .tc .vmem S256x1024 .f32)} :
    iprop(rowPts m c b ∗ blkPts c b f ∗ semVal (copyCell c b) 0)
      ⊢ iprop((fetching m c b -∗ run c (k ⟨⟩) Q)
          -∗ run c (.op (.enqueueDma (rowM b) (.here (blkM b)) (.dma (copyS b)) hsrc hdst hsem) k) Q) := by
  have e : ((blkM b).view.loc (c : Thread nD τ) ↦[(blkM b).view.set]{fullShare}
      ((blkM b).view.write (Elt F) f ((rowM b).view.read (Elt F) (xAt m c)) Finset.univ) : sProp 𝕄) = blkPts c b (fetched (xAt m c)) :=
    pointsTo_congr (fetch_leaves (xAt m c) b f)
  unfold fetching
  rw [← e]
  unfold rowPts blkPts
  have h := Transfers.wp_dmaLocal (Q := Q) (defs := defs₀ (F := F)) EC 𝒱₀ (c : Thread nD τ) none (src := rowM b) (dst := blkM b) (sm := .dma (copyS b))
    (Sd := (blkM b).view.set) (hsrc := hsrc) (hdst := hdst) (hsem := hsem) (k := k)
    (via := .same) (q := fullShare) (fs := xAt m c) (fd := f)
    () (blkM b).view.dmaCredit rfl (View.dmaCredit_pos _ (by decide)) (Finset.Subset.refl _)
  exact h

/-- The wait for fetch `b`: the block, the rows, and the semaphore back at zero. -/
theorem step_fetched {α : Type} {Q : α → sProp 𝕄} {k : PUnit → Code F α} (b : Fin 8) {O : CellTallies nD τ sig Unit} (hO : Above 0 O)
    {hsrc : (rowM b).view.WordExact} {hdst : (blkM b).view.WordExact} :
    iprop(fetching m c b ∗ levAts L lv ∗ debts c O)
      ⊢ iprop(((blkPts c b (fetched (xAt m c)) ∗ rowPts m c b) ∗ semVal (copyCell c b) 0 ∗ debts c O -∗ run c (k ⟨⟩) Q)
          -∗ run c (.op (.waitDma2 (copyS b) (rowM b) (blkM b) hsrc hdst) k) Q) := by
  unfold debts fetching
  iintro ⟨Hf, #Hlev, ⟨%W, HO⟩⟩ Hk
  iapply (Transfers.wp_waitLocalO EC 𝒱₀ (c : Thread nD τ) none () rfl (O := O) (W := W)) $$ [Hf HO]
  · isplitl [Hf]; · iexact Hf
    isplitl [HO]; · iexact HO
    iapply (mayWait c (.dma (copyS b)) 0 (level_copy b) hO); iexact Hlev
  iintro ⟨HD, Hv, HO⟩
  iapply Hk
  isplitl [HD]; · iexact HD
  isplitl [Hv]; · iexact Hv
  iexists _; iexact HO

/-- A load of block `b`. -/
theorem step_load_blk (b : Fin 8) {hl : bW.view.LoadsAt (blkR b).toLoadRect}
    {α : Type} {Q : α → sProp 𝕄} {k' : Vec F S1x256x1024 .f32 → Code F α} :
    blkPts c b (fetched (xAt m c))
      ⊢ iprop((blkPts c b (fetched (xAt m c)) -∗ run c (k' (blk (xAt m c) b)) Q) -∗ run c (.op (.load bW (blkR b).toLoadRect hl) k') Q) := by
  have h := wp_load (defs := defs₀ (F := F)) (Γ := PendingWaitsCtx.empty) (Q := Q) 𝒱₀ (c : Thread nD τ) none Set.univ (m := bW) (r := (blkR b).toLoadRect) (hl := hl) (k := k')
    (S := (blkM b).view.set) (q := fullShare) (f := fetched (xAt m c))
    (by rw [blkM_set]; exact Finset.subset_of_eq Finset.map_refl)
  rw [load_blk] at h
  exact h

/-! ## The accumulator -/

/-- The accumulator, held whole. -/
abbrev accHeld (v : Vec F S1x1024 .f32) : sProp 𝕄 := accPts c fullShare v

/-- A load of the accumulator, at any share. -/
theorem step_load_acc (q : PosShare TreeShare) (v : Vec F S1x1024 .f32) {hl : aW.view.LoadsAt lineR.toLoadRect}
    {α : Type} {Q : α → sProp 𝕄} {k' : Vec F S1x1024 .f32 → Code F α} :
    accPts c q v ⊢ iprop((accPts c q v -∗ run c (k' v) Q) -∗ run c (.op (.load aW lineR.toLoadRect hl) k') Q) := by
  have h := wp_load (defs := defs₀ (F := F)) (Γ := PendingWaitsCtx.empty) (Q := Q) 𝒱₀ (c : Thread nD τ) none Set.univ (m := aW) (r := lineR.toLoadRect) (hl := hl) (k := k')
    (S := aW.view.set) (q := q) (f := v) (by rw [View.set_whole]; exact Finset.subset_univ _)
  rw [load_acc] at h
  exact h

/-- A store to the accumulator. -/
theorem step_store_acc {α : Type} {Q : α → sProp 𝕄} {k : PUnit → Code F α} (f v : Vec F S1x1024 .f32) {hx : (aW.access lineR).Stores Finset.univ}
    {hm : (Finset.univ : Finset lineR.shape.Idx) = Finset.univ ∨ ∀ a, lineR.stride a = 1} :
    accHeld c f ⊢ iprop((accHeld c v -∗ run c (k ⟨⟩) Q) -∗ run c (.op (.store aW lineR v Finset.univ hx hm) k) Q) := by
  have h := wp_store (defs := defs₀ (F := F)) (Γ := PendingWaitsCtx.empty) (Q := Q) 𝒱₀ (c : Thread nD τ) none Set.univ (m := aW) (r := lineR) (w := v) (Mk := Finset.univ)
    (hx := hx) (hm := hm) (k := k) (S := aW.view.set) (f := f) (by rw [View.set_whole]; exact Finset.subset_univ _)
  rw [show (aW.access lineR).write (Elt F) f v Finset.univ = v from store_acc f v] at h
  exact h

/-- The load nobody reads, and the store of the result. -/
theorem step_out {α : Type} {Q : α → sProp 𝕄} {k : PUnit → Code F α} (f v : Vec F S1x1024 .f32)
    {hl : oW.view.LoadsAt lineR.toLoadRect} {hx : (oW.access lineR).Stores Finset.univ}
    {hm : (Finset.univ : Finset lineR.shape.Idx) = Finset.univ ∨ ∀ a, lineR.stride a = 1} :
    ((c : Thread nD τ).loc cc0_stg0_0 ↦{fullShare} f : sProp 𝕄)
      ⊢ iprop((((c : Thread nD τ).loc cc0_stg0_0 ↦{fullShare} v) -∗ run c (k ⟨⟩) Q)
          -∗ run c (.op (.load oW lineR.toLoadRect hl) fun _ => .op (.store oW lineR v Finset.univ hx hm) k) Q) := by
  have h := wp_store (defs := defs₀ (F := F)) (Γ := PendingWaitsCtx.empty) (Q := Q) 𝒱₀ (c : Thread nD τ) none Set.univ (m := oW) (r := lineR) (w := v) (Mk := Finset.univ)
    (hx := hx) (hm := hm) (k := k) (S := Finset.univ) (f := f) (Finset.subset_univ _)
  rw [show (oW.access lineR).write (Elt F) f v Finset.univ = v from store_out f v] at h
  iintro Ho Hk
  iapply (wp_load (defs := defs₀ (F := F)) (Γ := PendingWaitsCtx.empty) (Q := Q) 𝒱₀ (c : Thread nD τ) none Set.univ (m := oW) (r := lineR.toLoadRect) (hl := hl)
    (S := Finset.univ) (q := fullShare) (f := f) (Finset.subset_univ _)) $$ Ho
  iintro Ho
  iapply h $$ Ho; iexact Hk

/-- Block `b + 1`: wait for its fetch, load it, add its column sums to the accumulator. -/
theorem step_add {α : Type} {Q : α → sProp 𝕄} {k : PUnit → Code F α} (b : ℕ) (hb : b < 7) {O : CellTallies nD τ sig Unit} (hO : Above 0 O)
    {g : Vec F S1x256x1024 .f32 → Vec F S1x1024 .f32 → Vec F S1x1024 .f32} (hg : g = k0_pay3)
    (B : Fin 8) (hB : B = Fin.ofNat 8 (b + 1))
    {hsrc : (rowM B).view.WordExact} {hdst : (blkM B).view.WordExact} {hl : bW.view.LoadsAt (blkR B).toLoadRect}
    {hl' hl'' : aW.view.LoadsAt lineR.toLoadRect} {hx : (aW.access lineR).Stores Finset.univ}
    {hm : (Finset.univ : Finset lineR.shape.Idx) = Finset.univ ∨ ∀ a, lineR.stride a = 1} :
    iprop(fetching m c B ∗ levAts L lv ∗ debts c O ∗ accHeld c (accUpTo (xAt m c) b))
      ⊢ iprop(((blkPts c B (fetched (xAt m c)) ∗ rowPts m c B ∗ semVal (copyCell c B) 0) ∗ debts c O ∗ accHeld c (accUpTo (xAt m c) (b + 1))
            -∗ run c (k ⟨⟩) Q)
          -∗ run c (.op (.waitDma2 (copyS B) (rowM B) (blkM B) hsrc hdst) fun _ =>
              .op (.load bW (blkR B).toLoadRect hl) fun v => .op (.load aW lineR.toLoadRect hl') fun a =>
                .op (.load aW lineR.toLoadRect hl'') fun _ => .op (.store aW lineR (g v a) Finset.univ hx hm) k) Q) := by
  subst hg hB
  iintro ⟨Hf, #Hlev, HO, Ha⟩ Hk
  iapply (step_fetched m c _ hO) $$ [Hf HO]
  · isplitl [Hf]; · iexact Hf
    isplitr; · iexact Hlev
    iexact HO
  iintro ⟨⟨Hb, Hr⟩, Hv, HO⟩
  iapply (step_load_blk m c _) $$ Hb; iintro Hb
  iapply (step_load_acc c _ _) $$ Ha; iintro Ha
  iapply (step_load_acc c _ _) $$ Ha; iintro Ha
  iapply (step_store_acc c _ _) $$ Ha; iintro Ha
  iapply Hk
  isplitl [Hb Hr Hv]
  · isplitl [Hb]; · iexact Hb
    isplitl [Hr] <;> iassumption
  isplitl [HO]; · iexact HO
  iexact Ha

/-! ## The transfers -/

omit [FloatOps F] in
/-- Every slot counts the same for a transfer. -/
theorem slot_amount (t : Fin 3) (q : DmaSem sig) : (slotM t).view.amount (.dma q) = N := rfl

/-- Where the row lands: the slot then holds what its owner expects there. -/
theorem arrival_leaves (s : Fin 3) (f : Vec F S3x1x1024 .f32) :
    ((slotM (rev s)).view.loc (peer c s : Thread nD τ) ↦[(slotM (rev s)).view.set]{fullShare}
      ((slotM (rev s)).view.write (Elt F) f (aW.view.read (Elt F) (accAt m c)) Finset.univ) : sProp 𝕄) = recvPay m (peer c s) (rev s) := by
  have h := send_leaves (fun t => accAt m (peer (peer c s) t)) (rev s) f
  have ha : accAt m (peer (peer c s) (rev s)) = accAt m c := congrArg (accAt m) (peer_peer c s)
  simp only [ha] at h
  unfold recvPay slotPts slotsAt
  exact pointsTo_congr h

/-- The transfer of the sums to the `s`-th other, into the slot of it that the device holds: the device owes one row
    less, and may wait for the leaving. -/
theorem step_send {α : Type} {Q : α → sProp 𝕄} {k : PUnit → Code F α} (s : Fin 3) (n : Dev nD) (hn : n = peer c s) (O : CellTallies nD τ sig Unit) (t : Fin 3) (ht : t = rev s)
    {hsc : (slotM t : Memref sig (Dev.tc n : Thread nD τ).2.kind .vmem S1x1024 .f32).view.ref.isScScratch = false}
    {hsrc : aW.view.WordExact} {hdst : (slotM t).view.WordExact}
    {hsem : DmaTarget.Typed .vmem (.dma (recvS t)) (.remote (Dev.tc n : Thread nD τ) (slotM t) (.dma (sendS s)) hsc)} :
    iprop(records m K ∗ debts c (O + owedRow c s) ∗ accPts c (Ring.shares3 fullShare s) (accAt m c) ∗ barPay c s
        ∗ dutyTok ER (sendCell c s) 0 0 ∗ dutyTok ER (recvCell (peer c s) (rev s)) 0 0)
      ⊢ iprop((cred (tallyAt (sendCell c s) () N) ∗ debts c O -∗ run c (k ⟨⟩) Q)
          -∗ run c (.op (.enqueueDma aW (.remote (Dev.tc n : Thread nD τ) (slotM t) (.dma (sendS s)) hsc) (.dma (recvS t)) hsrc hdst hsem) k) Q) := by
  subst hn ht
  unfold debts barPay
  iintro ⟨#HR, ⟨%W, HO⟩, Ha, ⟨%f, Hs⟩, HtS, HtV⟩ Hk
  have hpay : ((slotM (rev s)).view.loc (peer c s : Thread nD τ) ↦[(slotM (rev s)).view.set]{fullShare}
      ((slotM (rev s)).view.write (Elt F) f (aW.view.read (Elt F) (accAt m c)) Finset.univ) : sProp 𝕄)
      ⊢ (sched m).payload (recvCell (peer c s) (rev s)) 0 0 := by
    rw [payload_cell m (peer c s) (some (true, rev s))]; exact Entails.of_eq (arrival_leaves m c s f)
  have hpay' : (aW.view.loc (c : Thread nD τ) ↦[aW.view.set]{Ring.shares3 fullShare s} accAt m c : sProp 𝕄)
      ⊢ (sched m).payload (sendCell c s) 0 0 := by
    rw [payload_cell m c (some (false, s))]; exact BI.Entails.refl _
  have h := Rounds.wp_send_pointsTo (Q := Q) (defs := defs₀ (F := F)) (Γ := PendingWaitsCtx.empty) (Es := Set.univ) 𝒱₀ ER (sched m)
    (c : Thread nD τ) none (κ₁ := K (c, some (false, s)))
    (κ₂ := K (peer c s, some (true, rev s))) (r₁ := 0) (r₂ := 0) (d₁ := 0) (d₂ := 0) (fd := f) (fs := accAt m c)
    (q := Ring.shares3 fullShare s) (c' := (peer c s : Thread nD τ)) (src := aW) (dst := slotM (rev s)) (hsc := hsc) (hsrc := hsrc) (hdst := hdst) (hsem := hsem) (k := k)
    (by rw [duties_cell m c (some (false, s))]; exact Finset.mem_singleton_self _)
    (by rw [duties_cell m (peer c s) (some (true, rev s))]; exact Finset.mem_singleton_self _)
    () () N (slot_amount _ _) (amount_cell m c (some (false, s)) 0) (amount_cell m (peer c s) (some (true, rev s)) 0) O rfl (W := W)
    hpay' hpay
  iapply h $$ [HO Ha Hs HtS HtV]
  · isplitr; · iapply (records_inv m K (c, some (false, s))); iexact HR
    isplitr; · iapply (records_inv m K (peer c s, some (true, rev s))); iexact HR
    isplitl [Ha]; · unfold accPts; iexact Ha
    isplitl [Hs]; · unfold slotPts; iexact Hs
    isplitl [HO]; · iexact HO
    isplitl [HtS]; · iexact HtS
    isplitr; · iapply (records_reached m K (c, some (false, s))); iexact HR
    isplitl [HtV]; · iexact HtV
    iapply (records_reached m K (peer c s, some (true, rev s))); iexact HR
  iintro ⟨Hc, HO⟩
  iapply Hk
  isplitl [Hc]; · iexact Hc
  iexists W; iexact HO

/-- The wait for transfer `s` to have left: the share of the accumulator it read is back. -/
theorem step_left {α : Type} {Q : α → sProp 𝕄} {k : PUnit → Code F α} (s : Fin 3) {sp : Space} {sh : Shape} {e : EltTy} {srcw : Memref sig .tc sp sh e}
    {hsrc : srcw.view.WordExact} {hdst : aW.view.WordExact} :
    iprop(records m K ∗ cred (tallyAt (sendCell c s) () N) ∗ debts c 0 ∗ atPos ER (sendCell c s) 0 ∅ 0)
      ⊢ iprop((debts c 0 ∗ atPos ER (sendCell c s) 1 ∅ 0 ∗ sendPay m c s -∗ run c (k ⟨⟩) Q)
          -∗ run c (.op (.waitDma2 (sendS s) srcw aW hsrc hdst) k) Q) := by
  unfold debts
  iintro ⟨#HR, Hc, ⟨%W, HO⟩, Hat⟩ Hk
  iapply (Rounds.wp_wait_rest_token 𝒱₀ ER (sched m) (c : Thread nD τ) none (κ := K (c, some (false, s)))
      (wpE_waitDma2_eq 𝒱₀ (c : Thread nD τ) none Set.univ) (Set.mem_univ _) () (O := 0) (W := W) (R := 0) (m := 0) (T := ∅)
      (by rw [Nat.zero_add, expect_xfer m c (false, s)])) $$ [Hc HO Hat]
  · isplitr; · iapply (records_inv m K (c, some (false, s))); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq (rest_send m c s)); iexact Hpay

/-- The wait for the arrival in slot `t`: the slot, holding the sums of the `t`-th other. -/
theorem step_arrived {α : Type} {Q : α → sProp 𝕄} {k : PUnit → Code F α} (t : Fin 3) {sp : Space} {sh : Shape} {e : EltTy} {srcw : Memref sig .tc sp sh e}
    {hsrc : srcw.view.WordExact} {hdst : (slotM t).view.WordExact} :
    iprop(records m K ∗ cred (tallyAt (recvCell c t) () N) ∗ debts c 0 ∗ atPos ER (recvCell c t) 0 ∅ 0)
      ⊢ iprop((debts c 0 ∗ atPos ER (recvCell c t) 1 ∅ 0 ∗ recvPay m c t -∗ run c (k ⟨⟩) Q)
          -∗ run c (.op (.waitDma2 (recvS t) srcw (slotM t) hsrc hdst) k) Q) := by
  unfold debts
  iintro ⟨#HR, Hc, ⟨%W, HO⟩, Hat⟩ Hk
  iapply (Rounds.wp_wait_rest_token 𝒱₀ ER (sched m) (c : Thread nD τ) none (κ := K (c, some (true, t)))
      (wpE_waitDma2_eq 𝒱₀ (c : Thread nD τ) none Set.univ) (Set.mem_univ _) () (O := 0) (W := W) (R := 0) (m := 0) (T := ∅)
      (by rw [Nat.zero_add, expect_xfer m c (true, t)])) $$ [Hc HO Hat]
  · isplitr; · iapply (records_inv m K (c, some (true, t))); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq (rest_recv m c t)); iexact Hpay

/-- A load of slot `t` once the row is there. -/
theorem step_load_slot (t : Fin 3) {hl : sW.view.LoadsAt (slotR t).toLoadRect}
    {α : Type} {Q : α → sProp 𝕄} {k' : Vec F S1x1x1024 .f32 → Code F α} :
    recvPay m c t
      ⊢ iprop((recvPay m c t -∗ run c (k' (slotRow (accAt m (peer c t)))) Q) -∗ run c (.op (.load sW (slotR t).toLoadRect hl) k') Q) := by
  have h := wp_load (defs := defs₀ (F := F)) (Γ := PendingWaitsCtx.empty) (Q := Q) 𝒱₀ (c : Thread nD τ) none Set.univ (m := sW) (r := (slotR t).toLoadRect) (hl := hl) (k := k')
    (S := (slotM t).view.set) (q := fullShare) (f := slotsAt m c)
    (by rw [slotM_set]; exact Finset.subset_of_eq Finset.map_refl)
  rw [show sW.view.readAt (Elt F) (slotR t).toLoadRect (slotsAt m c) = slotRow (accAt m (peer c t)) from
    load_slot (fun t => accAt m (peer c t)) t] at h
  exact h

/-- The one round of each cell is over: the counter is the device's again, at zero. -/
theorem cells_close :
    iprop(records m K ∗ bigSep Finset.univ fun j : Cls => atPos ER (kcell (c, j)) 1 ∅ 0)
      ⊢ (iprop(|={Set.univ}=> bigSep Finset.univ fun j : Cls => semVal (kcell (c, j)) 0) : sProp 𝕄) := by
  have h : ∀ j : Cls, iprop(records m K ∗ atPos ER (kcell (c, j)) 1 ∅ 0) ⊢ (iprop(|={Set.univ}=> semVal (kcell (c, j)) 0) : sProp 𝕄) := fun j =>
    (sep_mono_left (records_inv m K (c, j))).trans
      (Rounds.cell_close ER (sched m) (Set.mem_univ (K (c, j))) (fun h => h) (R := 1) (duties_later m (kcell (c, j))))
  refine BIBase.Entails.trans ?_ (bigSep_fupd _ _)
  refine BIBase.Entails.trans ?_ (bigSep_mono fun j _ => h j)
  show _ ⊢ bigSep _ fun j => sep _ _
  rw [bigSep_sep']
  exact sep_mono_left (BI.bigSep_of_persistent _ _)

end

end Cert.MeanProof
-- ==== Proof.Body.lean ====
/-
# The body of a device

What a device holds is cut into the pieces its steps take: the argument and the fetched blocks by eight, the slots
by three, the accumulator into three shares. Then the steps are taken in the order of the program, and the pieces
put together again.
-/
module

public import proofs.«01_k».proof.Proof.Steps

@[expose] public section

noncomputable section

namespace Cert.MeanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cls → ℕ) (c : Dev nD)

/-! ## Cutting and joining what is held -/

/-- Fetch `b` before it starts: its rows, its block at whatever it holds, its counter at zero. -/
def idle (b : Fin 8) : sProp 𝕄 := iprop(rowPts m c b ∗ (∃ f, blkPts c b f) ∗ semVal (copyCell c b) 0)
/-- Fetch `b` after its wait: its rows, its block holding them, its counter at zero again. -/
def done (b : Fin 8) : sProp 𝕄 := iprop(blkPts c b (fetched (xAt m c)) ∗ rowPts m c b ∗ semVal (copyCell c b) 0)

theorem rows_eq : xPts m c = bigSep Finset.univ fun b : Fin 8 => rowPts m c b := by
  have h := Ring.pointsTo_blocks (Ix := Unit) (Name := ℕ) (U := UU) (Lvl := ℕ) (Val := Elt F) (ℓ := (c : Thread nD τ).loc main_arg0) (q := fullShare) (fun b : Fin 8 => (rowM b).view.set)
    rowM_disjoint rowM_cover (xAt m c)
  unfold xPts rowPts
  exact h

theorem blocks_eq (f : Vec F S8x256x1024 .f32) :
    ((c : Thread nD τ).loc cc0_scratch0 ↦{fullShare} f : sProp 𝕄) = bigSep Finset.univ fun b : Fin 8 => blkPts c b f := by
  unfold blkPts
  exact Ring.pointsTo_blocks (ℓ := (c : Thread nD τ).loc cc0_scratch0) (fun b : Fin 8 => (blkM b).view.set) blkM_disjoint blkM_cover f

theorem slots_eq (f : Vec F S3x1x1024 .f32) :
    ((c : Thread nD τ).loc cc0_scratch2 ↦{fullShare} f : sProp 𝕄) = bigSep Finset.univ fun t : Fin 3 => slotPts c t f := by
  unfold slotPts
  exact Ring.pointsTo_blocks (ℓ := (c : Thread nD τ).loc cc0_scratch2) (fun t : Fin 3 => (slotM t).view.set) slotM_disjoint slotM_cover f

theorem blocks_any (f : Vec F S8x256x1024 .f32) :
    (bigSep Finset.univ fun b : Fin 8 => blkPts c b f) ⊢ (bigSep Finset.univ fun b : Fin 8 => iprop(∃ f, blkPts (F := F) c b f) : sProp 𝕄) :=
  bigSep_mono fun b _ => show blkPts c b f ⊢ iprop(∃ f, blkPts (F := F) c b f) by iintro H; iexists f; iexact H

theorem slots_any (f : Vec F S3x1x1024 .f32) :
    (bigSep Finset.univ fun t : Fin 3 => slotPts c t f) ⊢ (bigSep Finset.univ fun t : Fin 3 => iprop(∃ f, slotPts (F := F) c t f) : sProp 𝕄) :=
  bigSep_mono fun t _ => show slotPts c t f ⊢ iprop(∃ f, slotPts (F := F) c t f) by iintro H; iexists f; iexact H

/-- The argument, the fetched blocks' buffer and the eight counters, fetch by fetch. -/
theorem idle_split :
    iprop(xPts m c ∗ (∃ f, (c : Thread nD τ).loc cc0_scratch0 ↦{fullShare} f) ∗ fetchSems (F := F) c)
      ⊢ bigSep Finset.univ fun b : Fin 8 => idle m c b := by
  unfold idle fetchSems
  rw [rows_eq, bigSep_sep', bigSep_sep']
  iintro ⟨Hx, ⟨%f, Hb⟩, Hs⟩
  isplitl [Hx]; · iexact Hx
  isplitr [Hs]
  · ihave Hb' := (Entails.of_eq (blocks_eq c f)) $$ Hb
    iapply (blocks_any c f); iexact Hb'
  iexact Hs

/-- All eight fetches done: the argument, the buffer and the counters are whole again. -/
theorem done_join :
    (bigSep Finset.univ fun b : Fin 8 => done m c b)
      ⊢ iprop(xPts m c ∗ (∃ f, (c : Thread nD τ).loc cc0_scratch0 ↦{fullShare} f) ∗ fetchSems (F := F) c) := by
  unfold done fetchSems
  rw [rows_eq, bigSep_sep', bigSep_sep', ← blocks_eq]
  iintro ⟨Hb, Hx, Hs⟩
  isplitl [Hx]; · iexact Hx
  isplitl [Hb]; · iexists _; iexact Hb
  iexact Hs

/-- The slots' buffer, slot by slot. -/
theorem slots_split :
    iprop(∃ f, (c : Thread nD τ).loc cc0_scratch2 ↦{fullShare} f)
      ⊢ (bigSep Finset.univ fun t : Fin 3 => iprop(∃ f, slotPts (F := F) c t f) : sProp 𝕄) := by
  iintro ⟨%f, Hs⟩
  ihave Hs' := (Entails.of_eq (slots_eq c f)) $$ Hs
  iapply (slots_any c f); iexact Hs'

/-- All three rows arrived: the slots' buffer is whole again. -/
theorem slots_join :
    (bigSep Finset.univ fun t : Fin 3 => recvPay m c t)
      ⊢ (iprop(∃ f, (c : Thread nD τ).loc cc0_scratch2 ↦{fullShare} f) : sProp 𝕄) := by
  unfold recvPay
  rw [← slots_eq]
  iintro H; iexists _; iexact H

/-- The accumulator in the three shares the transfers read it at. -/
theorem acc_thirds (v : Vec F S1x1024 .f32) :
    (accHeld c v : sProp 𝕄) ⊣⊢ iprop(accPts c (Ring.shares3 fullShare 0) v ∗ accPts c (Ring.shares3 fullShare 1) v
      ∗ accPts c (Ring.shares3 fullShare 2) v) := by
  have h := Ring.pointsTo_thirds (Ix := Unit) (Name := ℕ) (U := UU) (Lvl := ℕ) (Val := Elt F) (ℓ := aW.view.loc (c : Thread nD τ))
    (I := aW.view.set) fullShare v
  unfold accPts
  exact h

/-- The accumulator's buffer is the accumulator. -/
theorem acc_eq (v : Vec F S1x1024 .f32) : ((c : Thread nD τ).loc cc0_scratch1 ↦{fullShare} v : sProp 𝕄) = accHeld c v := by
  unfold accHeld accPts; rw [View.set_whole]

theorem chain3 (Φ : Fin 3 → sProp 𝕄) : bigSep Finset.univ Φ = iprop(Φ 0 ∗ Φ 1 ∗ Φ 2) :=
  bigSep_univ_eq_bigSepL [0, 1, 2] (by decide) (by decide) Φ

theorem chain8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem chainCls (Φ : Cls → sProp 𝕄) :
    bigSep Finset.univ Φ = iprop(Φ none ∗ Φ (some (false, 0)) ∗ Φ (some (false, 1)) ∗ Φ (some (false, 2))
      ∗ Φ (some (true, 0)) ∗ Φ (some (true, 1)) ∗ Φ (some (true, 2))) :=
  bigSep_univ_eq_bigSepL [none, some (false, 0), some (false, 1), some (false, 2), some (true, 0), some (true, 1), some (true, 2)]
    (by decide) (by decide) Φ

/-! ## Two steps over these pieces -/

/-- Fetch `b` starts, from what it needs. -/
theorem step_start {α : Type} {Q : α → sProp 𝕄} {k : PUnit → Code F α} (b : Fin 8)
    {hsrc : (rowM b).view.WordExact} {hdst : (blkM b).view.WordExact}
    {hsem : DmaTarget.Typed .hbm (.dma (copyS b)) (.here (blkM b) : DmaTarget nD τ sig .tc .vmem S256x1024 .f32)} :
    idle m c b ⊢ iprop((fetching m c b -∗ run c (k ⟨⟩) Q)
      -∗ run c (.op (.enqueueDma (rowM b) (.here (blkM b)) (.dma (copyS b)) hsrc hdst hsem) k) Q) := by
  unfold idle
  iintro ⟨Hx, ⟨%f, Hb⟩, Hs⟩ Hk
  iapply (step_fetch m c b f) $$ [Hx Hb Hs]
  · isplitl [Hx]; · iexact Hx
    isplitl [Hb] <;> iassumption
  iexact Hk

/-- Block `0`: wait for its fetch, load it, put its column sums in the accumulator. -/
theorem step_first {α : Type} {Q : α → sProp 𝕄} {k : PUnit → Code F α} (a0 : Vec F S1x1024 .f32)
    {O : CellTallies nD τ sig Unit} (hO : Above 0 O)
    {hsrc : (rowM 0).view.WordExact} {hdst : (blkM 0).view.WordExact} {hl : bW.view.LoadsAt (blkR 0).toLoadRect}
    {hl' : aW.view.LoadsAt lineR.toLoadRect} {hx : (aW.access lineR).Stores Finset.univ}
    {hm : (Finset.univ : Finset lineR.shape.Idx) = Finset.univ ∨ ∀ a, lineR.stride a = 1} :
    iprop(fetching m c 0 ∗ levAts L lv ∗ debts c O ∗ accHeld c a0)
      ⊢ iprop((done m c 0 ∗ debts c O ∗ accHeld c (accUpTo (xAt m c) 0) -∗ run c (k ⟨⟩) Q)
          -∗ run c (.op (.waitDma2 (copyS 0) (rowM 0) (blkM 0) hsrc hdst) fun _ =>
              .op (.load bW (blkR 0).toLoadRect hl) fun v => .op (.load aW lineR.toLoadRect hl') fun _ =>
                .op (.store aW lineR (k0_pay2 v) Finset.univ hx hm) k) Q) := by
  iintro ⟨Hf, #Hlev, HO, Ha⟩ Hk
  iapply (step_fetched m c 0 hO) $$ [Hf HO]
  · isplitl [Hf]; · iexact Hf
    isplitr; · iexact Hlev
    iexact HO
  iintro ⟨⟨Hb, Hr⟩, Hv, HO⟩
  iapply (step_load_blk m c 0) $$ Hb; iintro Hb
  iapply (step_load_acc c _ _) $$ Ha; iintro Ha
  iapply (step_store_acc c _ _) $$ Ha; iintro Ha
  iapply Hk
  unfold done
  isplitl [Hb Hr Hv]
  · isplitl [Hb]; · iexact Hb
    isplitl [Hr] <;> iassumption
  isplitl [HO]; · iexact HO
  iexact Ha

/-! ## The body -/

/-- What the body begins with, the names of the cells given. -/
def bodyPre : sProp 𝕄 :=
  iprop((records m K ∗ places c) ∗ creds c ∗ levAts L lv ∗ fetchSems c ∗ xPts m c ∗ scratch c ∗ debts c (O₀ c)
    ∗ ∃ f, (c : Thread nD τ).loc cc0_stg0_0 ↦{fullShare} f)

/-- What it ends with: nothing owed, and the result in its staging buffer. -/
def bodyPost : sProp 𝕄 :=
  iprop(Φ₁ m c ∗ debts c 0 ∗ (c : Thread nD τ).loc cc0_stg0_0 ↦{fullShare} outAt m c)

/-- The body's program, on the buffers and semaphores the call gives it. -/
abbrev body : Code F PUnit :=
  cc0_body xW (Memref.isWhole_whole _) oW (Memref.isWhole_whole _) bW (Memref.isWhole_whole _) aW (Memref.isWhole_whole _)
    sW (Memref.isWhole_whole _) cc0_scratch3 cc0_scratch4 cc0_scratch5

set_option maxHeartbeats 4000000 in
set_option maxRecDepth 8000 in
/-- The body runs from what a device begins with to what it ends with. -/
theorem body_runs (Q : PUnit → sProp 𝕄) : iprop(bodyPre m K c ∗ (bodyPost m c -∗ Q ⟨⟩)) ⊢ run c (body (F := F)) Q := by
  unfold body
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel
    k0_part9_skel k0_part10_skel
  simp only [semSignalWord, semWaitWord, Prog.lift, Prog.bind_op, Prog.bind_ret, Prog.pure_eq_ret, wp_deviceId, run]
  unfold bodyPre places creds scratch O₀
  rw [chainCls, chain3, chain3]
  unfold payToks
  iintro ⟨⟨⟨#HR, ⟨HatB, HatS0, HatS1, HatS2, HatV0, HatV1, HatV2⟩, ⟨HtB0, HtS0, HtV0⟩, ⟨HtB1, HtS1, HtV1⟩, ⟨HtB2, HtS2, HtV2⟩⟩,
    ⟨HcB, HcV0, HcV1, HcV2⟩, #Hlev, Hfs, Hx, ⟨Hb, ⟨%a0, Ha⟩, Hs⟩, HO, ⟨%o0, Hout⟩⟩, Hk⟩
  ihave Hi := (idle_split m c) $$ [Hx Hb Hfs]
  · isplitl [Hx]; · iexact Hx
    isplitl [Hb] <;> iassumption
  ihave Hi' := (Entails.of_eq (chain8 fun b => idle m c b)) $$ Hi
  icases Hi' with ⟨Hi0, Hi1, Hi2, Hi3, Hi4, Hi5, Hi6, Hi7⟩
  ihave Hs := (slots_split c) $$ Hs
  ihave Hs' := (Entails.of_eq (chain3 fun t => iprop(∃ f, slotPts (F := F) c t f))) $$ Hs
  icases Hs' with ⟨Hs0, Hs1, Hs2⟩
  ihave Ha := (Entails.of_eq (acc_eq c a0)) $$ Ha
  iapply (step_signal m K c 0 _ (dev1_eq c) _) $$ [HO HtB0 Hs0]
  · isplitr; · iexact HR
    isplitl [HO]; · iexact HO
    isplitl [HtB0] <;> iassumption
  iintro HO
  iapply (step_signal m K c 1 _ (dev2_eq c) _) $$ [HO HtB1 Hs1]
  · isplitr; · iexact HR
    isplitl [HO]; · iexact HO
    isplitl [HtB1] <;> iassumption
  iintro HO
  iapply (step_signal m K c 2 _ (dev3_eq c) _) $$ [HO HtB2 Hs2]
  · isplitr; · iexact HR
    isplitl [HO]; · iexact HO
    isplitl [HtB2] <;> iassumption
  iintro HO
  iapply (step_start m c 0) $$ Hi0; iintro Hf0
  iapply (step_start m c 1) $$ Hi1; iintro Hf1
  iapply (step_start m c 2) $$ Hi2; iintro Hf2
  iapply (step_start m c 3) $$ Hi3; iintro Hf3
  iapply (step_start m c 4) $$ Hi4; iintro Hf4
  iapply (step_start m c 5) $$ Hi5; iintro Hf5
  iapply (step_start m c 6) $$ Hi6; iintro Hf6
  iapply (step_start m c 7) $$ Hi7; iintro Hf7
  have hO₁ : Above 0 (O₁ c) := (above_O₁ c).mono (by decide)
  iapply (step_first m c a0 hO₁) $$ [Hf0 HO Ha]
  · isplitl [Hf0]; · iexact Hf0
    isplitr; · iexact Hlev
    isplitl [HO] <;> iassumption
  iintro ⟨Hd0, HO, Ha⟩
  iapply (step_add m c 0 (by decide) hO₁ rfl 1 rfl) $$ [Hf1 HO Ha]
  · isplitl [Hf1]; · iexact Hf1
    isplitr; · iexact Hlev
    isplitl [HO] <;> iassumption
  iintro ⟨Hd1, HO, Ha⟩
  iapply (step_add m c 1 (by decide) hO₁ rfl 2 rfl) $$ [Hf2 HO Ha]
  · isplitl [Hf2]; · iexact Hf2
    isplitr; · iexact Hlev
    isplitl [HO] <;> iassumption
  iintro ⟨Hd2, HO, Ha⟩
  iapply (step_add m c 2 (by decide) hO₁ rfl 3 rfl) $$ [Hf3 HO Ha]
  · isplitl [Hf3]; · iexact Hf3
    isplitr; · iexact Hlev
    isplitl [HO] <;> iassumption
  iintro ⟨Hd3, HO, Ha⟩
  iapply (step_add m c 3 (by decide) hO₁ rfl 4 rfl) $$ [Hf4 HO Ha]
  · isplitl [Hf4]; · iexact Hf4
    isplitr; · iexact Hlev
    isplitl [HO] <;> iassumption
  iintro ⟨Hd4, HO, Ha⟩
  iapply (step_add m c 4 (by decide) hO₁ rfl 5 rfl) $$ [Hf5 HO Ha]
  · isplitl [Hf5]; · iexact Hf5
    isplitr; · iexact Hlev
    isplitl [HO] <;> iassumption
  iintro ⟨Hd5, HO, Ha⟩
  iapply (step_add m c 5 (by decide) hO₁ rfl 6 rfl) $$ [Hf6 HO Ha]
  · isplitl [Hf6]; · iexact Hf6
    isplitr; · iexact Hlev
    isplitl [HO] <;> iassumption
  iintro ⟨Hd6, HO, Ha⟩
  iapply (step_add m c 6 (by decide) hO₁ rfl 7 rfl) $$ [Hf7 HO Ha]
  · isplitl [Hf7]; · iexact Hf7
    isplitr; · iexact Hlev
    isplitl [HO] <;> iassumption
  iintro ⟨Hd7, HO, Ha⟩
  iapply (step_barrier m K c) $$ [HcB HO HatB]
  · isplitr; · iexact HR
    isplitr; · iexact Hlev
    isplitl [HcB]; · iexact HcB
    isplitl [HO] <;> iassumption
  iintro ⟨HO, HatB, Hp⟩
  ihave Hp' := (Entails.of_eq (chain3 fun t => barPay (F := F) c t)) $$ Hp
  icases Hp' with ⟨Hp0, Hp1, Hp2⟩
  unfold O₁
  ihave Ha := (Entails.of_eq (show (accHeld c (accUpTo (xAt m c) (6 + 1)) : sProp 𝕄) = accHeld c (accAt m c) from rfl)) $$ Ha
  ihave Ha' := (acc_thirds c (accAt m c)).1 $$ Ha
  icases Ha' with ⟨Ha0, Ha1, Ha2⟩
  iapply (step_send m K c 0 _ (dev4_eq c) _ 2 rfl) $$ [HO Ha0 Hp0 HtS0 HtV0]
  · isplitr; · iexact HR
    isplitl [HO]; · iexact HO
    isplitl [Ha0]; · iexact Ha0
    isplitl [Hp0]; · iexact Hp0
    isplitl [HtS0] <;> iassumption
  iintro ⟨HcS0, HO⟩
  iapply (step_send m K c 1 _ (dev5_eq c) _ 1 rfl) $$ [HO Ha1 Hp1 HtS1 HtV1]
  · isplitr; · iexact HR
    isplitl [HO]; · iexact HO
    isplitl [Ha1]; · iexact Ha1
    isplitl [Hp1]; · iexact Hp1
    isplitl [HtS1] <;> iassumption
  iintro ⟨HcS1, HO⟩
  iapply (step_send m K c 2 _ (dev6_eq c) _ 0 rfl) $$ [HO Ha2 Hp2 HtS2 HtV2]
  · isplitr; · iexact HR
    isplitl [HO]; · iexact HO
    isplitl [Ha2]; · iexact Ha2
    isplitl [Hp2]; · iexact Hp2
    isplitl [HtS2] <;> iassumption
  iintro ⟨HcS2, HO⟩
  iapply (step_left m K c 0) $$ [HO HcS0 HatS0]
  · isplitr; · iexact HR
    isplitl [HcS0]; · iexact HcS0
    isplitl [HO] <;> iassumption
  iintro ⟨HO, HatS0, Ha0⟩
  iapply (step_arrived m K c 2) $$ [HO HcV2 HatV2]
  · isplitr; · iexact HR
    isplitl [HcV2]; · iexact HcV2
    isplitl [HO] <;> iassumption
  iintro ⟨HO, HatV2, Hv2⟩
  iapply (step_left m K c 1) $$ [HO HcS1 HatS1]
  · isplitr; · iexact HR
    isplitl [HcS1]; · iexact HcS1
    isplitl [HO] <;> iassumption
  iintro ⟨HO, HatS1, Ha1⟩
  iapply (step_arrived m K c 1) $$ [HO HcV1 HatV1]
  · isplitr; · iexact HR
    isplitl [HcV1]; · iexact HcV1
    isplitl [HO] <;> iassumption
  iintro ⟨HO, HatV1, Hv1⟩
  iapply (step_left m K c 2) $$ [HO HcS2 HatS2]
  · isplitr; · iexact HR
    isplitl [HcS2]; · iexact HcS2
    isplitl [HO] <;> iassumption
  iintro ⟨HO, HatS2, Ha2⟩
  iapply (step_arrived m K c 0) $$ [HO HcV0 HatV0]
  · isplitr; · iexact HR
    isplitl [HcV0]; · iexact HcV0
    isplitl [HO] <;> iassumption
  iintro ⟨HO, HatV0, Hv0⟩
  unfold sendPay
  ihave Ha := (acc_thirds c (accAt m c)).2 $$ [Ha0 Ha1 Ha2]
  · isplitl [Ha0]; · iexact Ha0
    isplitl [Ha1] <;> iassumption
  iapply (step_load_acc c _ _) $$ Ha; iintro Ha
  iapply (step_load_slot m c 0) $$ Hv0; iintro Hv0
  iapply (step_load_slot m c 1) $$ Hv1; iintro Hv1
  iapply (step_load_slot m c 2) $$ Hv2; iintro Hv2
  iapply (step_out c _ _) $$ Hout; iintro Hout
  unfold run; rw [wp_ret]
  imod (cells_close m K c) $$ [HatB HatS0 HatS1 HatS2 HatV0 HatV1 HatV2] with Hz
  · isplitr; · iexact HR
    rw [chainCls]
    isplitl [HatB]; · iexact HatB
    isplitl [HatS0]; · iexact HatS0
    isplitl [HatS1]; · iexact HatS1
    isplitl [HatS2]; · iexact HatS2
    isplitl [HatV0]; · iexact HatV0
    isplitl [HatV1] <;> iassumption
  imodintro
  iapply Hk
  ihave Hd := (done_join m c) $$ [Hd0 Hd1 Hd2 Hd3 Hd4 Hd5 Hd6 Hd7]
  · rw [chain8]
    unfold done
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6] <;> iassumption
  icases Hd with ⟨Hx, Hb, Hf⟩
  ihave Hs := (slots_join m c) $$ [Hv0 Hv1 Hv2]
  · rw [chain3]
    isplitl [Hv0]; · iexact Hv0
    isplitl [Hv1] <;> iassumption
  unfold bodyPost Φ₁ scratch
  isplitr [HO Hout]
  · isplitl [Hx]; · iexact Hx
    isplitr [Hf Hz]
    · isplitl [Hb]; · iexact Hb
      isplitl [Ha]
      · iexists _; iapply (Entails.of_eq (acc_eq c (accAt m c)).symm); iexact Ha
      iexact Hs
    isplitl [Hf] <;> iassumption
  isplitl [HO]; · iexact HO
  iexact Hout

/-! ## The body as the pipeline asks for it -/

set_option maxRecDepth 8000 in
/-- At its one point the body does what the pipeline asks of it. -/
theorem body_obligation : BodyObligation (dats (F := F) m ρ 0 c) (defs₀ (F := F)) 𝒱₀ () Set.univ := fun t => by
  rw [fin_N0 t]
  rw [bigSep_W0, bigSep_W0]
  simp only [owns_whole]
  show iprop(Φ₀ m c ∗ (dats m ρ 0 c).owesAt () t0_0.castSucc
      ∗ ∃ d, (c : Thread nD τ).loc cc0_stg0_0 ↦{fullShare} (dats m ρ 0 c).before (0 : Fin 1) t0_0 d)
    ⊢ run c (body (F := F)) fun _ => iprop(Φ₁ m c ∗ (dats m ρ 0 c).owesAt () t0_0.succ
      ∗ (c : Thread nD τ).loc cc0_stg0_0 ↦{fullShare} outAt m c)
  unfold Φ₀ start Dat.owesAt Pipeline.owesWithin
  rw [show (dats m ρ 0 c).owed t0_0.castSucc = O₀ c from rfl, show (dats m ρ 0 c).owed t0_0.succ = 0 from rfl]
  iintro ⟨⟨⟨⟨%K, HG⟩, Hc, Hl, Hf, Hx⟩, Hsc⟩, ⟨%W, -, HO⟩, ⟨%d, Ho⟩⟩
  iapply (body_runs m K c _)
  unfold bodyPre bodyPost debts
  isplitr []
  · isplitl [HG]; · iexact HG
    isplitl [Hc]; · iexact Hc
    isplitl [Hl]; · iexact Hl
    isplitl [Hf]; · iexact Hf
    isplitl [Hx]; · iexact Hx
    isplitl [Hsc]; · iexact Hsc
    isplitl [HO]; · iexists W; iexact HO
    iexists _; iexact Ho
  iintro ⟨HP, ⟨%W', HO⟩, Ho⟩
  isplitl [HP]; · iexact HP
  isplitl [HO]
  · iexists W'
    isplitr; · ipureintro; exact fun _ _ => Or.inl trivial
    iexact HO
  iexact Ho

end Cert.MeanProof
-- ==== Proof.Launch.lean ====
/-
# What the launch deals out

Before the devices start, every cell gets its invariant, and the tokens of the duties go to the devices that pay
them. The tokens are minted where a duty is collected; two of the three kinds are then passed to the device on the
other side.
-/
module

public import proofs.«01_k».proof.Proof.Body
public import Idealize.ShloMosaic.Lib.Pipeline.Launch

@[expose] public section

noncomputable section

namespace Cert.MeanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens at launch -/

/-- The kernel's own semaphores in the order they are declared: eight fetches, three leavings, three arrivals. -/
def osem : Fin 14 → SemLoc sig := fun i => .dma ⟨1 + i.val, by have := i.isLt; show 1 + i.val < 15; omega⟩

theorem kcell_injective : Function.Injective kcell := fun p q h =>
  Prod.ext (congrArg (fun g : GSem nD τ sig => g.1.1) h) (csem_injective (congrArg (fun g : GSem nD τ sig => g.2) h))

/-- The cells the devices meet on. -/
def meetCells : Finset (GSem nD τ sig) := Finset.univ.map ⟨kcell, kcell_injective⟩

/-- Duty `q` of a device, in three kinds of three: at the barrier, at a leaving, at an arrival. -/
def dutyAt : Fin 3 × Fin 3 → Cls × Fin 3
  | (0, s) => (none, s)
  | (1, s) => (some (false, s), 0)
  | (2, s) => (some (true, s), 0)

theorem dutyAt_injective : Function.Injective dutyAt := by unfold Function.Injective; decide

/-- The token of duty `p.2` of device `p.1`. -/
def tokAt (p : Dev nD × (Fin 3 × Fin 3)) : GSem nD τ sig × ℕ × Fin 3 := (kcell (p.1, (dutyAt p.2).1), 0, (dutyAt p.2).2)

theorem tokAt_injective : Function.Injective tokAt := fun p q h => by
  have h1 := kcell_injective (congrArg Prod.fst h)
  have hc : p.1 = q.1 := congrArg (fun x : Dev nD × Cls => x.1) h1
  have hj : (dutyAt p.2).1 = (dutyAt q.2).1 := congrArg (fun x : Dev nD × Cls => x.2) h1
  have h2 : (dutyAt p.2).2 = (dutyAt q.2).2 := congrArg (fun x : GSem nD τ sig × ℕ × Fin 3 => x.2.2) h
  exact Prod.ext hc (dutyAt_injective (Prod.ext hj h2))

/-- All the tokens. -/
def meetToks : Finset (GSem nD τ sig × ℕ × Fin 3) := Finset.univ.map ⟨tokAt, tokAt_injective⟩

/-- What the launch is given: the pipeline's rounds, the devices' rounds, and no counter. -/
def u₀ : UU :=
  (initOf (Pipeline.cells cfgs cellOf_inj) (Pipeline.launchToks cfgs cellOf_inj), (initOf meetCells meetToks, 1))

/-- The tokens of the duties device `c` collects: its `s`-th other's signal, and transfer `s` out and in. -/
def minted (c : Dev nD) (s : Fin 3) : sProp 𝕄 :=
  iprop(dutyTok ER (barCell c) 0 s ∗ dutyTok ER (sendCell c s) 0 0 ∗ dutyTok ER (recvCell c s) 0 0)

/-- What device `c` is dealt first. -/
def G (c : Dev nD) : sProp 𝕄 :=
  iprop((bigSep Finset.univ fun j : Cls => roundState ER (sched m) (kcell (c, j)) 0)
    ∗ (bigSep Finset.univ fun j : Cls => iprop(atPos ER (kcell (c, j)) 0 ∅ 0 ∗ reached ER (kcell (c, j)) 0))
    ∗ bigSep Finset.univ fun s : Fin 3 => minted (F := F) c s)

/-- What it starts with once the cells have their invariants and the tokens are with those who pay. -/
def G' (c : Dev nD) : sProp 𝕄 := iprop((∃ K, records m K ∗ places c) ∗ fetchSems c)

theorem cells_sum (Φ : GSem nD τ sig → sProp 𝕄) :
    bigSep meetCells Φ = bigSep Finset.univ fun c : Dev nD => bigSep Finset.univ fun j : Cls => Φ (kcell (c, j)) := by
  unfold meetCells; rw [bigSep_map, bigSep_univ_prod]; rfl

theorem toks_sum : bigSep meetToks (fun x => (dutyTok ER x.1 x.2.1 x.2.2 : sProp 𝕄))
    = bigSep Finset.univ fun c : Dev nD => bigSep Finset.univ fun s : Fin 3 => minted (F := F) c s := by
  unfold meetToks
  rw [bigSep_map, bigSep_univ_prod]
  refine bigSep_congr fun c _ => ?_
  rw [bigSep_univ_prod, chain3]
  unfold minted
  rw [bigSep_sep', bigSep_sep']
  rfl

/-- The devices' rounds, cut into what each device is dealt. -/
theorem fund_meet : BI.own (ER (initOf meetCells meetToks)) ⊢ (|==> bigSep Finset.univ (G m) : sProp 𝕄) := by
  iintro HX
  imod (Rounds.fund ER (sched m) meetCells meetToks) $$ HX with ⟨Hst, Hr, Hat, Htok⟩
  imodintro
  ihave Hst' := (Entails.of_eq (cells_sum fun g => roundState ER (sched m) g 0)) $$ Hst
  ihave Hat' := (Entails.of_eq (cells_sum fun g => (atPos ER g 0 ∅ 0 : sProp 𝕄))) $$ Hat
  ihave Hr' := (Entails.of_eq (cells_sum fun g => (reached ER g 0 : sProp 𝕄))) $$ Hr
  ihave Htok' := (Entails.of_eq (toks_sum (F := F))) $$ Htok
  unfold G; simp only [bigSep_sep']
  isplitl [Hst']; · iexact Hst'
  isplitl [Hat' Hr']
  · isplitl [Hat'] <;> iassumption
  iexact Htok'

/-! ## The counters -/

/-- The counters of a device: its own fourteen. -/
theorem ownSems0_eq (c : Dev nD) :
    (Pipeline.ownSems0 (Ix := Unit) (Name := ℕ) (U := UU) (Lvl := ℕ) (Val := Elt F) (τ := τ) osem c : sProp 𝕄)
    = iprop((semVal (copyCell c 0) 0 ∗ semVal (copyCell c 1) 0 ∗ semVal (copyCell c 2) 0 ∗ semVal (copyCell c 3) 0
        ∗ semVal (copyCell c 4) 0 ∗ semVal (copyCell c 5) 0 ∗ semVal (copyCell c 6) 0 ∗ semVal (copyCell c 7) 0
        ∗ semVal (sendCell c 0) 0 ∗ semVal (sendCell c 1) 0 ∗ semVal (sendCell c 2) 0
        ∗ semVal (recvCell c 0) 0 ∗ semVal (recvCell c 1) 0 ∗ semVal (recvCell c 2) 0)) := by
  rw [Pipeline.ownSems0_eq_of_list c osem [0, 1, 2, 3, 4, 5, 6, 7, 8, 9, 10, 11, 12, 13] (by decide) (by decide)]; rfl

/-- The one counter that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters as the launch holds them and as the proof holds them. -/
theorem counters_out (c : Dev nD) :
    iprop(Pipeline.ownSems0 (Ix := Unit) (Name := ℕ) (U := UU) (Lvl := ℕ) (Val := Elt F) (τ := τ) osem c ∗ unscopedSems0 c)
      ⊢ (iprop(fetchSems c ∗ bigSep Finset.univ fun j : Cls => semVal (kcell (c, j)) 0) : sProp 𝕄) := by
  unfold fetchSems
  rw [ownSems0_eq, unscopedSems0_eq, chain8, chainCls]
  iintro ⟨⟨H0, H1, H2, H3, H4, H5, H6, H7, HS⟩, HB⟩
  isplitr [HS HB]
  · isplitl [H0]; · iexact H0
    isplitl [H1]; · iexact H1
    isplitl [H2]; · iexact H2
    isplitl [H3]; · iexact H3
    isplitl [H4]; · iexact H4
    isplitl [H5]; · iexact H5
    isplitl [H6] <;> iassumption
  isplitl [HB]; · iexact HB
  iexact HS

theorem counters_in (c : Dev nD) :
    (iprop(fetchSems c ∗ bigSep Finset.univ fun j : Cls => semVal (kcell (c, j)) 0) : sProp 𝕄)
      ⊢ iprop(Pipeline.ownSems0 (Ix := Unit) (Name := ℕ) (U := UU) (Lvl := ℕ) (Val := Elt F) (τ := τ) osem c ∗ unscopedSems0 c) := by
  unfold fetchSems
  rw [ownSems0_eq, unscopedSems0_eq, chain8, chainCls]
  iintro ⟨⟨H0, H1, H2, H3, H4, H5, H6, H7⟩, HB, HS⟩
  isplitr [HB]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption
  iexact HB

/-! ## The step from what is dealt to what a device starts with -/

/-- What device `c` has once its cells are closed: their invariants under some names, its places, the tokens as
    minted, and the fetches' counters. -/
def opened (c : Dev nD) : sProp 𝕄 :=
  iprop((bigSep Finset.univ fun j : Cls => iprop(∃ κ : ℕ, cellInv ER (sched m) κ (kcell (c, j))))
    ∗ (bigSep Finset.univ fun j : Cls => iprop(atPos ER (kcell (c, j)) 0 ∅ 0 ∗ reached ER (kcell (c, j)) 0))
    ∗ (bigSep Finset.univ fun s : Fin 3 => minted (F := F) c s) ∗ fetchSems c)

theorem close_cells (c : Dev nD) :
    iprop((bigSep Finset.univ fun j : Cls => semVal (kcell (c, j)) 0) ∗ bigSep Finset.univ fun j : Cls => roundState ER (sched m) (kcell (c, j)) 0)
      ⊢ (|={Set.univ}=> bigSep Finset.univ fun j : Cls => iprop(∃ κ : ℕ, cellInv ER (sched m) κ (kcell (c, j))) : sProp 𝕄) := by
  rw [← bigSep_sep']
  exact (bigSep_mono fun j _ => (Rounds.body_intro ER (sched m) (kcell (c, j))).trans inv_alloc).trans (bigSep_fupd _ _)

theorem open_device (c : Dev nD) :
    iprop(Pipeline.ownSems0 (Ix := Unit) (Name := ℕ) (U := UU) (Lvl := ℕ) (Val := Elt F) (τ := τ) osem c ∗ unscopedSems0 c ∗ G m c)
      ⊢ |={Set.univ}=> opened m c := by
  unfold G opened
  iintro ⟨Hos, Hus, Hst, Hat, Htok⟩
  ihave Hv := (counters_out (F := F) c) $$ [Hos Hus]
  · isplitl [Hos] <;> iassumption
  icases Hv with ⟨Hf, Hv⟩
  imod (close_cells m c) $$ [Hv Hst] with Hinv
  · isplitl [Hv] <;> iassumption
  imodintro
  isplitl [Hinv]; · iexact Hinv
  isplitl [Hat]; · iexact Hat
  isplitl [Htok] <;> iassumption

/-- A sum over the pairs of a device and one of the others, taken from the other side. -/
theorem other_side (Φ : Dev nD → Fin 3 → sProp 𝕄) :
    (bigSep Finset.univ fun c : Dev nD => bigSep Finset.univ fun s : Fin 3 => Φ c s)
      = bigSep Finset.univ fun c : Dev nD => bigSep Finset.univ fun s : Fin 3 => Φ (peer c s) (rev s) := by
  rw [← bigSep_univ_prod (fun p : Dev nD × Fin 3 => Φ p.1 p.2), bigSep_univ_equiv swap (fun p : Dev nD × Fin 3 => Φ p.1 p.2),
    bigSep_univ_prod]
  rfl

/-- The tokens go from where they were minted to the devices that pay with them. -/
theorem toks_dealt : (bigSep Finset.univ fun c : Dev nD => bigSep Finset.univ fun s : Fin 3 => (minted c s : sProp 𝕄))
    = bigSep Finset.univ fun c : Dev nD => bigSep Finset.univ fun s : Fin 3 => payToks c s := by
  unfold minted payToks
  simp only [bigSep_sep']
  rw [other_side fun c s => (dutyTok ER (barCell c) 0 s : sProp 𝕄), other_side fun c s => (dutyTok ER (recvCell c s) 0 0 : sProp 𝕄)]

theorem start_of (K : Dev nD × Cls → ℕ) (c : Dev nD) :
    iprop(records m K ∗ places c ∗ fetchSems c) ⊢ G' m c := by
  unfold G'
  iintro ⟨HR, HP, Hf⟩
  isplitr [Hf]
  · iexists K; isplitl [HR] <;> iassumption
  iexact Hf

/-- All the devices' invariants together are the records each of them keeps. -/
theorem regroup : (bigSep Finset.univ fun c : Dev nD => opened m c) ⊢ bigSep Finset.univ (G' m) := by
  unfold opened
  simp only [bigSep_sep']
  rw [← bigSep_univ_prod (fun p : Dev nD × Cls => iprop(∃ κ : ℕ, cellInv ER (sched m) κ (kcell p))),
    ← bigSep_univ_prod (fun p : Dev nD × Cls => (reached ER (kcell p) 0 : sProp 𝕄)), toks_dealt]
  iintro ⟨HI, ⟨Hat, #HR⟩, Htok, Hf⟩
  ihave HK := (BI.bigSep_exists_pi Finset.univ (fun (p : Dev nD × Cls) (κ : ℕ) => (cellInv ER (sched m) κ (kcell p) : sProp 𝕄))) $$ HI
  icases HK with ⟨%K, #HI⟩
  have hrec : iprop((bigSep Finset.univ fun p : Dev nD × Cls => (cellInv ER (sched m) (K p) (kcell p) : sProp 𝕄))
      ∗ bigSep Finset.univ fun p : Dev nD × Cls => (reached ER (kcell p) 0 : sProp 𝕄)) ⊢ records m K := by
    unfold records; rw [bigSep_sep']
  have hall : iprop(records m K ∗ bigSep Finset.univ fun c : Dev nD => iprop(places (F := F) c ∗ fetchSems c)) ⊢ bigSep Finset.univ (G' m) :=
    (sep_mono_left (BI.bigSep_of_persistent Finset.univ (records m K))).trans (by
      rw [← bigSep_sep']; exact bigSep_mono fun c _ => start_of m K c)
  iapply hall
  isplitr
  · iapply hrec
    isplitl; · iexact HI
    iexact HR
  unfold places
  simp only [bigSep_sep']
  isplitr [Hf]
  · isplitl [Hat] <;> iassumption
  iexact Hf

/-- What the devices are dealt becomes what they start with, all at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_device m c).trans (bigSep_fupd _ _)).trans (BI.fupd_mono (regroup m))

end Cert.MeanProof

end
-- ==== Proof.Credit.lean ====
/-
# What a device may collect

At launch each device may collect from a cell what all the devices owe it together: three units of its barrier, and a
row in each of its slots.
-/
module

public import proofs.«01_k».proof.Proof.Launch

@[expose] public section

noncomputable section

namespace Cert.MeanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- A debt to one cell, read at a cell. -/
theorem tally_cell (p q : Dev nD × Cls) (n : ℕ) :
    (tallyAt (kcell p) () n : CellTallies nD τ sig Unit) (kcell q) () = if p = q then n else 0 := by
  rw [tallyAt_apply]
  by_cases h : p = q
  · subst h; rw [if_pos ⟨rfl, rfl⟩, if_pos rfl]
  · rw [if_neg (fun hh => h (kcell_injective hh.1).symm), if_neg h]

/-- A device has exactly one `s`-th predecessor. -/
theorem peer_eq_iff (d c : Dev nD) (s : Fin 3) : peer d s = c ↔ d = peer c (rev s) := by revert d c s; decide

/-- When every device owes `n` to a cell of kind `j` of its `s`-th other, each such cell is owed `n`, and no other. -/
theorem owed_sum (s : Fin 3) (j j' : Cls) (c : Dev nD) (n : ℕ) :
    (∑ d : Dev nD, (tallyAt (kcell (peer d s, j)) () n : CellTallies nD τ sig Unit) (kcell (c, j')) ()) = if j = j' then n else 0 := by
  rw [Finset.sum_congr rfl fun d _ => tally_cell (peer d s, j) (c, j') n]
  by_cases h : j = j'
  · subst h
    rw [if_pos rfl, Finset.sum_congr rfl fun d _ => if_congr (show (peer d s, j) = (c, j) ↔ d = peer c (rev s) from
      ⟨fun e => (peer_eq_iff d c s).mp (congrArg Prod.fst e), fun e => congrArg (fun x => (x, j)) ((peer_eq_iff d c s).mpr e)⟩) rfl rfl,
      Finset.sum_ite_eq' Finset.univ (peer c (rev s)) fun _ => n, if_pos (Finset.mem_univ _)]
  · rw [if_neg h]
    exact Finset.sum_eq_zero fun d _ => if_neg fun e => h (congrArg Prod.snd e)

/-- All that is owed at launch to a cell of kind `j`. -/
theorem owed_cell (c : Dev nD) (j : Cls) : (∑ d : Dev nD, O₀ d (kcell (c, j)) ())
    = (if some (true, rev 2) = j then N else 0) + (if some (true, rev 1) = j then N else 0) + (if some (true, rev 0) = j then N else 0)
      + (if none = j then 1 else 0) + (if none = j then 1 else 0) + (if none = j then 1 else 0) := by
  unfold O₀ O₁ owedBar owedRow
  simp only [Pi.add_apply, Finsupp.add_apply, Finset.sum_add_distrib, owed_sum, Pi.zero_apply, Finsupp.zero_apply,
    Finset.sum_const_zero, Nat.zero_add]

theorem owed_bar (c : Dev nD) : (∑ d : Dev nD, O₀ d (barCell c) ()) = 3 := by
  rw [owed_cell]; rfl

theorem owed_recv (c : Dev nD) (t : Fin 3) : (∑ d : Dev nD, O₀ d (recvCell c t) ()) = N := by
  rw [owed_cell]
  generalize N = n
  fin_cases t <;> simp [rev]

/-- The cells of a device from which it may collect something at launch: its barrier and its three arrivals. -/
def dueAt : Option (Fin 3) → SemLoc sig
  | none => .reg barS
  | some t => .dma (recvS t)

theorem dueAt_injective : Function.Injective dueAt := by
  have h : ∀ j, classOf (dueAt j) = some (j.map fun t => (true, t)) := by decide
  intro j j' e
  have e' := (h j).symm.trans ((congrArg classOf e).trans (h j'))
  revert e'; clear e h; revert j j'; decide

theorem due_cell (c : Dev nD) (sm : SemLoc sig) (n : ℕ) (h : (∑ d : Dev nD, O₀ d ((c : Thread nD τ), sm) ()) = n) :
    tallyOn ((c : Thread nD τ), sm) (launchCredit (Pipeline.owing O₀) 0 ((c : Thread nD τ), sm))
      = (tallyAt ((c : Thread nD τ), sm) () n : CellTallies nD τ sig Unit) := by
  unfold tallyAt
  refine congrArg _ (Finsupp.ext fun u => ?_)
  cases u
  rw [Pipeline.launchCredit_owing, Finsupp.single_eq_same, h]

/-- The launch's credit holds what a device may collect. -/
theorem creds_intro (c : Dev nD) : (Pipeline.launchCred O₀ c : sProp 𝕄) ⊢ creds c := by
  unfold Pipeline.launchCred creds
  refine BIBase.Entails.trans (BI.bigSep_subset (Finset.subset_univ (Finset.univ.map ⟨dueAt, dueAt_injective⟩))) ?_
  rw [bigSep_map, bigSep_univ_eq_bigSepL [none, some 0, some 1, some 2] (by decide) (by decide), chain3]
  rw [← due_cell c (.reg barS) 3 (owed_bar c), ← due_cell c (.dma (recvS 0)) N (owed_recv c 0),
    ← due_cell c (.dma (recvS 1)) N (owed_recv c 1), ← due_cell c (.dma (recvS 2)) N (owed_recv c 2)]
  exact BIBase.Entails.of_eq rfl

end Cert.MeanProof

end
-- ==== Proof.Run.lean ====
/-
# The run

Every execution of the four devices ends, with the computed contents in every device's result array, the argument as
it was, and every counter at zero.
-/
module

public import proofs.«01_k».proof.Proof.Credit
public import proofs.«01_k».proof.Proof.Gen.KernelIdeal.Points
public import Idealize.ShloMosaic.Lib.Pipeline.Value
public import Idealize.ShloMosaic.Lib.Pipeline.CollectiveSegs

@[expose] public section

noncomputable section

namespace Cert.MeanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Into the grid point and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' xPts
  iintro ⟨Hx, Hlev, Hcr, -, HG, Hf⟩
  ihave Hc := (creds_intro (F := F) c) $$ Hcr
  imodintro
  isplitl
  · isplitl [HG]; · iexact HG
    isplitl [Hc]; · iexact Hc
    isplitl [Hlev]; · iexact Hlev
    isplitl [Hf]; · iexact Hf
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N)
      ⊢ iprop((unscopedSems0 c ∗ xPts m c) ∗ Pipeline.ownSems0 osem c ∗ Pipeline.scopedRest cfg0.spec c) := by
  rw [show (dats m ρ 0 c).Φ (Fin.last cfg0.N) = Φ₁ m c from rfl, scopedRest0_eq]
  unfold Φ₁ scratch
  iintro ⟨Hx, Hr, Hf, Hv⟩
  ihave Hc := (counters_in (F := F) c) $$ [Hf Hv]
  · isplitl [Hf] <;> iassumption
  icases Hc with ⟨Ho, Hu⟩
  isplitl [Hx Hu]
  · isplitl [Hu] <;> iassumption
  isplitl [Ho]; · iexact Ho
  iexact Hr

/-- The pipeline's own waits, on the result's write-back, are on a counter below everything owed. -/
theorem waits (c : Dev nD) : (levAts L lv : sProp 𝕄) ⊢ Pipeline.cellsWaits cfgs (dats m ρ) () 0 c :=
  Pipeline.cellsWaits_intro cfgs (dats m ρ) () 0 c fun w s t => by
    refine mayWait c _ 0 (by fin_cases w; fin_cases s; decide) ?_
    rcases t with ⟨_ | _, ht⟩
    · exact above_O₀ c
    · exact above_zero 0

theorem ownSemFacts : Pipeline.OwnSemFacts cfg0.spec osem := by decide

theorem share_eq (c : Dev nD) (w : Fin cfg0.W) : (dats m ρ 0 c).share w = fullShare := by unfold Dat.share; split <;> rfl

/-! ## The result array -/

/-- What the write-back takes of a result is what the array's one block reads of it. -/
theorem block_read (v : Vec F S1x1024 .f32) :
    (cfg0.win 0).cut (cfg0.grid.coords t0_0) v = ((cfg0.win 0).blk t0_0).view.read (Elt F) v := by
  have e : win0_0.index t0_0 0 * win0_0.size 0 = 0 ∧ win0_0.index t0_0 1 * win0_0.size 1 = 0 := by decide +kernel
  funext j
  rw [View.read_apply]
  refine congrArg v (funext fun a => Fin.ext ?_)
  match a with
  | ⟨0, _⟩ =>
    show (j 0 : ℕ) = win0_0.index t0_0 0 * win0_0.size 0 + 1 * (j 0 : ℕ)
    rw [e.1]; omega
  | ⟨1, _⟩ =>
    show (j 1 : ℕ) = win0_0.index t0_0 1 * win0_0.size 1 + 1 * (j 1 : ℕ)
    rw [e.2]; omega

theorem flushed_eq (c : Dev nD) (t : Fin cfg0.N) :
    (dats m ρ 0 c).flushed 0 t = ((cfg0.win 0).blk t).view.read (Elt F) (outAt m c) := by
  obtain rfl := fin_N0 t
  have ha : (dats m ρ 0 c).after 0 t0_0 = outAt m c := by dsimp only [dats]
  unfold Dat.flushed
  rw [ha]
  exact block_read _

/-- The one block that is written back is the whole array. -/
theorem out_cover (i : S1x1024.Idx) : ∃ t : Fin cfg0.N, (cfg0.win 0).flush t = true ∧ i ∈ ((cfg0.win 0).blk t).view.set := by
  refine ⟨t0_0, flush0_0 _, ?_⟩
  show i ∈ ((View.whole main_v1).slice (win0_0.rect t0_0)).set
  rw [View.set_slice_whole, Rect.mem_set_unit]
  have h0 : (i 0 : Nat) < 1 := (i 0).isLt
  have h1 : (i 1 : Nat) < 1024 := (i 1).isLt
  have e : win0_0.index t0_0 0 * win0_0.size 0 = 0 ∧ win0_0.xsize (grid0.coords t0_0) 0 = 1
      ∧ win0_0.index t0_0 1 * win0_0.size 1 = 0 ∧ win0_0.xsize (grid0.coords t0_0) 1 = 1024 := by decide +kernel
  intro a
  match a with
  | ⟨0, _⟩ =>
    show win0_0.index t0_0 0 * win0_0.size 0 ≤ (i 0 : Nat)
      ∧ (i 0 : Nat) < win0_0.index t0_0 0 * win0_0.size 0 + win0_0.xsize (grid0.coords t0_0) 0
    rw [e.1, e.2.1]; omega
  | ⟨1, _⟩ =>
    show win0_0.index t0_0 1 * win0_0.size 1 ≤ (i 1 : Nat)
      ∧ (i 1 : Nat) < win0_0.index t0_0 1 * win0_0.size 1 + win0_0.xsize (grid0.coords t0_0) 1
    rw [e.2.2.1, e.2.2.2]; omega

/-- The result array of device `c` ends at what its grid point computes. -/
theorem final_v1 (c : Dev nD) : (dats m ρ 0 c).arrAt 0 cfg0.N = outAt m c :=
  (dats m ρ 0 c).arrAt_eq_of_cover 0 (outAt m c) (fun t _ => flushed_eq m ρ c t) out_cover

/-- The launch's resources, handed to the pipeline and to the devices' rounds. -/
theorem fund : (ownU u₀ : sProp 𝕄) ⊢ |={Set.univ}=> iprop(
    BI.own (EP (F := F) (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR (initOf meetCells meetToks) (1 : Counters)) $$ HX
  icases H2 with ⟨HX, -⟩
  imod (show BI.own (((Emb.inl : Emb UB (UB × Counters)).trans embR) (initOf meetCells meetToks)) ⊢ (|==> bigSep Finset.univ (G m) : sProp 𝕄)
    from fund_meet m) $$ HX with HG
  imodintro
  isplitl [HP] <;> iassumption

/-- What is read of the final state of device `c` besides its result: its argument, and its barrier's counter. -/
def Left (c : Dev nD) (s : MemSt nD τ sig (Elt F)) : Prop :=
  (∀ sm : SemLoc sig, sm.isScoped .tc = false → s.sem ((c.tc : Thread nD τ), sm) = 0)
    ∧ s.mem ((c : Thread nD τ).loc main_arg0) = xAt m c

theorem left_read (c : Dev nD) (s' : Phys nD τ sig (Elt F)) :
    iprop((unscopedSems0 c ∗ xPts m c) ∗ emp ∗ SI s') ⊢ (|={Set.univ}=> iprop(⌜Left m c s'.mem⌝ ∗ SI s') : sProp 𝕄) := by
  unfold xPts
  iintro ⟨⟨Hu, Hx⟩, -, HSI⟩
  icombine HSI Hx gives %hx
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hx⟩
  iexact HSI

set_option maxRecDepth 8000 in
/-- On four devices, for any float values, from any memory with zero counters: every weakly fair execution of the
    program ends, and in every final state each device's result array holds what its grid point computes, its argument
    is as it was, and every counter is at zero. -/
theorem run_main : θ_run defs (onTc (τ := τ) (main (F := F))) (s₀ m ρ) (fun r =>
    (∀ c : Dev nD, r.2.mem ((c : Thread nD τ).loc main_v1) = outAt m c ∧ r.2.mem ((c : Thread nD τ).loc main_arg0) = xAt m c)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀) (hu₀ := fund m) (hglob := glob m)
    (hA := fun _ _ => rfl) (hpf := fun _ k => k.elim0)
    (X := start m) (Y := fun c => iprop(unscopedSems0 c ∗ xPts m c)) (Z := fun _ => iprop(emp))
    (hX := start_intro m ρ) (hin := phi0_intro m ρ) (hout := phi1_exit m ρ)
    (QY := Left m) (hY := left_read m)
    (hQ := fun _ h hs => ⟨fun c => ⟨((h c).1 0).trans (final_v1 m ρ c), (h c).2.2.2⟩, sem_eq_zero hs fun c => (h c).2.2.1⟩)

end Cert.MeanProof

end
-- ==== Proof.ColumnSums.lean ====
/-
# What a device's accumulator adds up to

Over the extended reals: the sum of one block of 256 rows, the sum of the blocks so far, and the sum of all 2048
rows of a device, each at one column; and the result, which is the four devices' sums added and scaled.
-/
module

public import proofs.«01_k».proof.Proof.Contents
public import Idealize.ShloMosaic.PureOps.Ideal
public import Idealize.ShloMosaic.PureOps.Ideal.Laws

@[expose] public section

noncomputable section

namespace Cert.MeanProof

open Cert.KernelIdeal Cert.KernelIdeal.Gen
open Idealize.ShloMosaic
open Idealize.ShloMosaic.ValueIdx (ix1 ix2 ix3 eq_ix2)

/-- Row `n` of column `l` of an array of rows, and zero past its last row. -/
def colAt {h : ℕ} (X : (⟨2, ![h, 1024]⟩ : Shape).Idx → EReal) (l : Fin 1024) (n : ℕ) : EReal :=
  if hn : n < h then X (ix2 ⟨n, hn⟩ l) else 0

/-- A sum over an array's rows is the sum of `colAt` over the numbers below their count. -/
theorem sum_rows {h : ℕ} (X : (⟨2, ![h, 1024]⟩ : Shape).Idx → EReal) (l : Fin 1024) :
    ∑ k : Fin h, X (ix2 k l) = ∑ n ∈ Finset.range h, colAt X l n := by
  rw [Finset.sum_range]
  refine Finset.sum_congr rfl fun k _ => ?_
  unfold colAt
  rw [dif_pos k.isLt]

/-- The first block's row of sums, at column `l`: the sum of the block's 256 rows there. -/
theorem pay2_at (v : Vec Ideal S1x256x1024 .f32) (l : Fin 1024) :
    k0_pay2 (F := Ideal) v (ix2 0 l) = ∑ r : Fin 256, v (ix3 0 r l) := by
  unfold k0_pay2
  simp only [shapeCast_self]
  refine (ValueIdx.shapeCast_a_1a_apply (a := 1024) _ shapeCasts_S1024_S1x1024 0 l).trans ?_
  refine (Ideal.reduceAdd_single reduces_S256x1024_S1024 _ _).trans ?_
  refine Finset.sum_congr rfl fun r _ => ?_
  have e : reduces_S256x1024_S1024.lift (ix1 l) r = ix2 r l := by rw [eq_ix2 (reduces_S256x1024_S1024.lift (ix1 l) r)]; rfl
  rw [e]
  exact ValueIdx.shapeCast_1ab_ab_apply v shapeCasts_S1x256x1024_S256x1024 r l

/-- A later block's step, at column `l`: what was there, and the sum of the block's 256 rows. -/
theorem pay3_at (v : Vec Ideal S1x256x1024 .f32) (a : Vec Ideal S1x1024 .f32) (l : Fin 1024) :
    k0_pay3 (F := Ideal) v a (ix2 0 l) = (a (ix2 0 l) + ∑ r : Fin 256, v (ix3 0 r l) : EReal) := by
  have e := pay2_at v l
  unfold k0_pay2 at e
  unfold k0_pay3
  simp only [shapeCast_self] at e ⊢
  exact congrArg (fun s : EReal => (a (ix2 0 l) : EReal) + s) e

/-- The sum of block `k`'s rows at column `l`: rows `256 k … 256 k + 255` of the argument. -/
theorem blk_sum (X : Vec Ideal S2048x1024 .f32) (k : Fin 8) (l : Fin 1024) :
    (∑ r : Fin 256, (blk X k (ix3 0 r l) : EReal)) = ∑ n ∈ Finset.range 256, colAt X l (256 * k.val + n) := by
  rw [Finset.sum_range]
  refine Finset.sum_congr rfl fun r _ => ?_
  have hr : 256 * k.val + r.val < 2048 := by omega
  unfold colAt
  rw [dif_pos hr]
  rfl

/-- The accumulator after blocks `0 … k`, at column `l`: the sum of the first `256 (k + 1)` rows. -/
theorem accUpTo_at (X : Vec Ideal S2048x1024 .f32) (l : Fin 1024) :
    ∀ k, k < 8 → accUpTo X k (ix2 0 l) = ∑ n ∈ Finset.range (256 * (k + 1)), colAt X l n
  | 0, _ => by
    refine (pay2_at _ l).trans ((blk_sum X 0 l).trans ?_)
    exact Finset.sum_congr rfl fun n _ => congrArg (colAt X l) (by show 256 * 0 + n = n; omega)
  | k + 1, hk => by
    have hv : (Fin.ofNat 8 (k + 1)).val = k + 1 := Nat.mod_eq_of_lt hk
    have e := blk_sum X (Fin.ofNat 8 (k + 1)) l
    rw [hv] at e
    refine (pay3_at _ _ l).trans ?_
    rw [accUpTo_at X l k (by omega), e, show 256 * (k + 1 + 1) = 256 * (k + 1) + 256 from by omega,
      Finset.sum_range_add]

/-- A device's accumulator at column `l`: the sum of its 2048 rows. -/
theorem accOf_at (X : Vec Ideal S2048x1024 .f32) (l : Fin 1024) :
    accOf X (ix2 0 l) = ∑ n ∈ Finset.range 2048, colAt X l n := accUpTo_at X l 7 (by omega)

/-- A received row, cast to a row of columns, is that row. -/
theorem slotRow_cast (v : Vec Ideal S1x1024 .f32) (l : Fin 1024) :
    shapeCast S1x1024 (slotRow v) shapeCasts_S1x1x1024_S1x1024 (ix2 0 l) = v (ix2 0 l) :=
  ValueIdx.shapeCast_1ab_ab_apply (slotRow v) shapeCasts_S1x1x1024_S1x1024 0 l

/-- The result at column `l`: the four rows added, times the kernel's scale. -/
theorem outOf_at (own : Vec Ideal S1x1024 .f32) (a : Fin 3 → Vec Ideal S1x1024 .f32) (l : Fin 1024) :
    outOf own a (ix2 0 l)
      = ((own (ix2 0 l) + a 0 (ix2 0 l) + a 1 (ix2 0 l) + a 2 (ix2 0 l) : EReal)) * Ideal.ofBits .f32 0x39000000#32 := by
  have e := fun t => slotRow_cast (a t) l
  rw [← e 0, ← e 1, ← e 2]
  rfl

end Cert.MeanProof
-- ==== Proof.Reference.lean ====
/-
# What the reference computes

The mean of 8192 rows, column by column: the sum of the column's 8192 elements, divided by 8192. Over the extended
reals dividing by 8192 is multiplying by the number the kernel's scale stands for, at every value, infinities too.
-/
module

public import proofs.«01_k».proof.Proof.ColumnSums
public import proofs.«01_k».proof.Proof.Gen.ReferenceIdeal.Run

@[expose] public section

noncomputable section

namespace Cert.MeanProof

open Cert.ReferenceIdeal Cert.ReferenceIdeal.Gen
open Idealize.ShloMosaic
open Idealize.ShloMosaic.ValueIdx (ix1 ix2 eq_ix2)

/-- The reference's result on the argument `Y`, as its operations compose. -/
def refOf (Y : Vec Ideal S8192x1024 .f32) : Vec Ideal S1x1024 .f32 :=
  Host.divf (broadcastInDim S1x1024 ![1] bcast_S1024_S1x1024_1 (Host.reduceAdd Y (constant (F := Ideal) S_ .f32 0x00000000#32)
    reducesTo_S8192x1024_S1024_d0 h_S_)) (broadcastInDim S1x1024 ![] bcast_S_S1x1024 (constant (F := Ideal) S_ .f32 0x46000000#32))

/-- The word the reference divides by is 8192. -/
theorem count_val : Ideal.ofBits .f32 0x46000000#32 = ((8192 : ℝ) : EReal) := by
  simp [Ideal.ofBits, Ideal.ieee, -EReal.coe_mul]; norm_num

/-- The word the kernel multiplies by is the inverse of 8192. -/
theorem scale_val : Ideal.ofBits .f32 0x39000000#32 = (((8192 : ℝ)⁻¹ : ℝ) : EReal) := by
  simp [Ideal.ofBits, Ideal.ieee, -EReal.coe_mul]; norm_num

/-- Dividing by the reference's count is multiplying by the kernel's scale. -/
theorem div_count (s : EReal) :
    Ideal.div s (Ideal.ofBits .f32 0x46000000#32) = s * Ideal.ofBits .f32 0x39000000#32 := by
  have h0 : ((8192 : ℝ) : EReal) ≠ 0 := by norm_num
  unfold Ideal.div
  rw [count_val, scale_val, if_neg h0, EReal.coe_inv]

/-- The reference's sum over the rows, at column `l`. -/
theorem refSum_at (Y : Vec Ideal S8192x1024 .f32) (l : Fin 1024) :
    Host.reduceAdd (F := Ideal) Y (constant (F := Ideal) S_ .f32 0x00000000#32) reducesTo_S8192x1024_S1024_d0 h_S_ (ix1 l)
      = ∑ n ∈ Finset.range 8192, colAt Y l n := by
  have hr : S8192x1024.Reduces [0] S1024 := by decide
  refine (Ideal.hostReduceAdd_single reducesTo_S8192x1024_S1024_d0 hr Y _ (ix1 l)).trans ?_
  have hz : (constant (F := Ideal) S_ .f32 0x00000000#32 (Shape.Idx.first h_S_) : EReal) = 0 := Ideal.ofBits_zero_f32
  rw [hz, zero_add, ← sum_rows]
  refine Finset.sum_congr rfl fun r _ => ?_
  have e : hr.lift (ix1 l) r = ix2 r l := by rw [eq_ix2 (hr.lift (ix1 l) r)]; rfl
  exact congrArg Y e

/-- A row of column sums laid out as one row of an array is the same row. -/
theorem row_at (x : S1024.Idx → EReal) (l : Fin 1024) :
    broadcastInDim S1x1024 ![1] bcast_S1024_S1x1024_1 x (ix2 0 l) = x (ix1 l) := by
  refine broadcastInDim_apply (s := S1024) (t := S1x1024) ![1] bcast_S1024_S1x1024_1 x (ix2 0 l) (ix1 l) fun a => ?_
  have h1 : S1024.size a ≠ 1 := by revert a; decide
  rw [if_neg h1]
  match a with
  | ⟨0, _⟩ => rfl

/-- The reference's result at column `l`: the column's sum, times the kernel's scale. -/
theorem refOf_at (Y : Vec Ideal S8192x1024 .f32) (l : Fin 1024) :
    refOf Y (ix2 0 l) = (∑ n ∈ Finset.range 8192, colAt Y l n) * Ideal.ofBits .f32 0x39000000#32 := by
  rw [← div_count, ← refSum_at]
  unfold refOf
  exact congrArg (fun s : EReal => Ideal.div s (Ideal.ofBits .f32 0x46000000#32)) (row_at _ l)

end Cert.MeanProof
-- ==== Proof.Equation.lean ====
/-
# The equation

Each device holds 2048 of the 8192 rows. Its own sums and the three it receives are the sums of the four devices,
so on every device the scaled total is the mean of all 8192 rows.
-/
module

public import proofs.«01_k».proof.Proof.Protocol
public import proofs.«01_k».proof.Proof.Reference

@[expose] public section

noncomputable section

namespace Cert.MeanProof

open Cert.KernelIdeal Cert.KernelIdeal.Gen
open Idealize.ShloMosaic
open Idealize.ShloMosaic.TcCoe
open Idealize.ShloMosaic.ValueIdx (ix2 eq_ix2)

/-- Row `n` of device `c`'s block is row `2048 c + n` of the whole array. -/
theorem colAt_block (Y : Vec Ideal Cert.ReferenceIdeal.S8192x1024 .f32) (c : Fin 4) (l : Fin 1024) (n : ℕ) (hn : n < 2048)
    (h : Layout.Tiles S2048x1024 Cert.ReferenceIdeal.S8192x1024 0 4) :
    colAt (Layout.block S2048x1024 Cert.ReferenceIdeal.S8192x1024 0 4 c Y h) l n = colAt Y l (2048 * c.val + n) := by
  have hN : 2048 * c.val + n < 8192 := by omega
  unfold colAt
  rw [dif_pos hn, dif_pos hN, Layout.block_apply]
  refine congrArg Y ?_
  funext a
  match a with
  | ⟨0, _⟩ => exact Fin.ext (by show c.val * 2048 + n = 2048 * c.val + n; omega)
  | ⟨1, _⟩ => rfl

/-- A device's accumulator at column `l`: rows `2048 c … 2048 c + 2047` of the whole array added. -/
theorem accOf_block (Y : Vec Ideal Cert.ReferenceIdeal.S8192x1024 .f32) (c : Fin 4) (l : Fin 1024)
    (h : Layout.Tiles S2048x1024 Cert.ReferenceIdeal.S8192x1024 0 4) :
    accOf (Layout.block S2048x1024 Cert.ReferenceIdeal.S8192x1024 0 4 c Y h) (ix2 0 l)
      = ∑ n ∈ Finset.range 2048, colAt Y l (2048 * c.val + n) := by
  rw [accOf_at]
  exact Finset.sum_congr rfl fun n hn => colAt_block Y c l n (Finset.mem_range.mp hn) h

/-- A device's own number and its three peers' are the four devices' numbers, so they add up to the same. -/
theorem own_and_peers (s : Fin 4 → EReal) (c : Fin 4) :
    s c + s (peer c 0) + s (peer c 1) + s (peer c 2) = ∑ d : Fin 4, s d := by
  have hp : ∀ c : Fin 4, (Finset.univ : Finset (Fin 4)) = {c, peer c 0, peer c 1, peer c 2} := by decide
  have hd : ∀ c : Fin 4, c ∉ ({peer c 0, peer c 1, peer c 2} : Finset (Fin 4))
      ∧ peer c 0 ∉ ({peer c 1, peer c 2} : Finset (Fin 4)) ∧ peer c 1 ∉ ({peer c 2} : Finset (Fin 4)) := by decide
  rw [hp c, Finset.sum_insert (hd c).1, Finset.sum_insert (hd c).2.1, Finset.sum_insert (hd c).2.2, Finset.sum_singleton,
    add_assoc, add_assoc]

/-- 8192 rows are four times 2048. -/
theorem four_blocks (f : ℕ → EReal) :
    ∑ d : Fin 4, ∑ n ∈ Finset.range 2048, f (2048 * d.val + n) = ∑ n ∈ Finset.range 8192, f n := by
  rw [Fin.sum_univ_four, show 8192 = 2048 + 2048 + 2048 + 2048 from rfl, Finset.sum_range_add, Finset.sum_range_add,
    Finset.sum_range_add]
  simp

/-- On every device the result is the reference's, when each device's argument is its block of the whole array. -/
theorem outAt_eq (m : (ℓ : Loc nD τ sig) → Buf (Elt Ideal) ℓ) (Y : Vec Ideal Cert.ReferenceIdeal.S8192x1024 .f32)
    (h : Layout.Tiles S2048x1024 Cert.ReferenceIdeal.S8192x1024 0 4)
    (hm : ∀ c : Dev nD, xAt m c = Layout.block S2048x1024 Cert.ReferenceIdeal.S8192x1024 0 4 c Y h) (c : Dev nD) :
    outAt m c = refOf Y := by
  have hacc : ∀ (d : Dev nD) (l : Fin 1024),
      accAt m d (ix2 0 l) = ∑ n ∈ Finset.range 2048, colAt Y l (2048 * d.val + n) := fun d l => by
    unfold accAt; rw [hm d]; exact accOf_block Y d l h
  funext i
  obtain ⟨u, l, rfl⟩ : ∃ (u : Fin 1) (l : Fin 1024), i = ix2 u l := ⟨i 0, i 1, eq_ix2 i⟩
  obtain rfl : u = 0 := Subsingleton.elim _ _
  unfold outAt
  refine (outOf_at _ _ l).trans ?_
  rw [refOf_at, hacc, hacc, hacc, hacc]
  exact congrArg (fun s : EReal => s * Ideal.ofBits .f32 0x39000000#32)
    ((own_and_peers (fun d => ∑ n ∈ Finset.range 2048, colAt Y l (2048 * d.val + n)) c).trans (four_blocks (colAt Y l)))

end Cert.MeanProof
-- ==== Proof.lean ====
/-
# The claim

The kernel's run at the bit-exact and at the ideal instance, the reference's run, and the equation between what the two
leave in their results: the frames of the three programs and the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.MeanProof

/-- The kernel read at the two instances is one text: its bodies are the same, label by label, -/
theorem bodies_eq {F : FTy → Type} [FloatOps F] : @Cert.Kernel.defs₀ F _ _ = @Cert.KernelIdeal.defs₀ F _ _ := by
  unfold Cert.Kernel.defs₀ Cert.KernelIdeal.defs₀
  refine congrArg Defs.onTc ?_
  funext ℓ a
  match ℓ, a with
  | 0, (_, _) => rfl

/-- and so are the regions that run them. -/
theorem defs_eq {F : FTy → Type} [FloatOps F] : @Cert.Kernel.defs F _ _ = @Cert.KernelIdeal.defs F _ _ := by
  unfold Cert.Kernel.defs Cert.KernelIdeal.defs
  rw [bodies_eq]
  rfl

/-- The kernel as compiled, on machine words: every execution of the four devices ends, with every device's argument as
    it was and every counter at zero. -/
theorem frame_kernel : Cert.quiescent_Kernel := by
  intro m ρ _
  rw [defs_eq]
  exact (θ_run (Cert.KernelIdeal.defs (F := Bits)) (onTc (τ := Cert.KernelIdeal.τ) (Cert.KernelIdeal.main (F := Bits))) _).mono
    (fun _ h => ⟨fun c => (h.1 c).2, h.2⟩) (run_main (F := Bits) m ρ)

/-- The same of the kernel over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference's run ends with its argument as it was; it has no counters. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals every device of the kernel ends with the reference's mean, when its argument is its block
    of 2048 rows of the reference's argument. -/
theorem value : Cert.algebraic_KernelIdeal_ReferenceIdeal := by
  intro m g m' g' _ hx
  exact ⟨refOf (m' (((0 : Dev Cert.ReferenceIdeal.nD).tc : Thread Cert.ReferenceIdeal.nD Cert.ReferenceIdeal.τ).loc
      Cert.ReferenceIdeal.main_arg0)),
    (θ_run Cert.KernelIdeal.defs _ _).mono
      (fun _ h c => ⟨(h.1 c).1.trans (outAt_eq m _ _ hx c), (h.1 c).2⟩) (run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_ideal, frame_reference, trivial, value⟩

end Cert.Proof

end
